-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S2x512x8192 : Shape := ⟨3, ![2, 512, 8192]⟩
abbrev S512x8192 : Shape := ⟨2, ![512, 8192]⟩
abbrev S2 : Shape := ⟨1, ![2]⟩
abbrev S_ : Shape := ⟨0, ![]⟩
abbrev S1 : Shape := ⟨1, ![1]⟩
abbrev S1x512x8192 : Shape := ⟨3, ![1, 512, 8192]⟩
abbrev S512x512 : Shape := ⟨2, ![512, 512]⟩

abbrev nBuf : Space → Nat
  | .hbm => 5
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S8192x512, .f32⟩
  | .hbm, ⟨2, _⟩ => ⟨S8192x512, .f32⟩
  | .hbm, ⟨3, _⟩ => ⟨S2x512x8192, .f32⟩
  | .hbm, ⟨4, _⟩ => ⟨S2x512x8192, .f32⟩
  | .local _ .vmem, ⟨0, _⟩ => ⟨S8192x512, .f32⟩
  | .local _ .vmem, ⟨1, _⟩ => ⟨S8192x512, .f32⟩
  | .local _ .vmem, ⟨2, _⟩ => ⟨S512x8192, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_22 : BitVec 32 := 1#32
  let v22 : BitVec 32 := Scalar.muli v5 c1_i32_22
  let v23 : BitVec 32 := Scalar.addi c0_i32_23 v22
  v23.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  let v40 : Index := Scalar.indexCast v31
  let c0_35 : Index := 0#32
  ![v40.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_36 : BitVec 32 := 1024#32
  let v42 : BitVec 32 := Scalar.muli v2 c1024_i32_36
  let c512_i32_37 : BitVec 32 := 512#32
  let v43 : BitVec 32 := Scalar.addi v42 c512_i32_37
  let v52 : Index := Scalar.indexCast v43
  let c0_48 : Index := 0#32
  ![v52.toNat, 0]
def k0_off3 (d0 : Dev nD) (c0_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v78 : BitVec 32 := Scalar.subi v2 c1_i32_83
  let v79 : BitVec 32 := Scalar.subi v78 c0_i32_84
  let c16_i32 : BitVec 32 := 16#32
  let v80 : BitVec 32 := Scalar.addi v79 c16_i32
  let c8_i32_85 : BitVec 32 := 8#32
  let v81 : BitVec 32 := Scalar.remsi v80 c8_i32_85
  let c1024_i32_89 : BitVec 32 := 1024#32
  let v85 : BitVec 32 := Scalar.muli v81 c1024_i32_89
  let v96 : Index := Scalar.indexCast v85
  let c0_102 : Index := 0#32
  ![v96.toNat, 0]
def k0_off4 (d0 : Dev nD) (c0_i32_87 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v82 : BitVec 32 := Scalar.addi v2 c1_i32_86
  let v83 : BitVec 32 := Scalar.addi v82 c0_i32_87
  let c8_i32_88 : BitVec 32 := 8#32
  let v84 : BitVec 32 := Scalar.remsi v83 c8_i32_88
  let c1024_i32_103 : BitVec 32 := 1024#32
  let v98 : BitVec 32 := Scalar.muli v84 c1024_i32_103
  let c512_i32_104 : BitVec 32 := 512#32
  let v99 : BitVec 32 := Scalar.addi v98 c512_i32_104
  let v110 : Index := Scalar.indexCast v99
  let c0_117 : Index := 0#32
  ![v110.toNat, 0]
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_119 : BitVec 32 := 1#32
  let v112 : BitVec 32 := Scalar.muli v5 c1_i32_119
  let v113 : BitVec 32 := Scalar.addi c0_i32_120 v112
  v113.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_122 : BitVec 32 := 1#32
  let v114 : BitVec 32 := Scalar.muli v7 c1_i32_122
  let v115 : BitVec 32 := Scalar.addi c0_i32_123 v114
  v115.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_130 : BitVec 32 := 1#32
  let v116 : BitVec 32 := Scalar.muli v7 c1_i32_130
  let v117 : BitVec 32 := Scalar.addi c0_i32_131 v116
  v117.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_140 : BitVec 32 := 1#32
  let v126 : BitVec 32 := Scalar.muli v5 c1_i32_140
  let v127 : BitVec 32 := Scalar.addi c0_i32_141 v126
  v127.toNat
def k0_dev9 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_221 : BitVec 32 := 1#32
  let v198 : BitVec 32 := Scalar.muli v5 c1_i32_221
  let v199 : BitVec 32 := Scalar.addi c0_i32_222 v198
  v199.toNat
def k0_dev10 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_224 : BitVec 32 := 1#32
  let v200 : BitVec 32 := Scalar.muli v7 c1_i32_224
  let v201 : BitVec 32 := Scalar.addi c0_i32_225 v200
  v201.toNat
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_232 : BitVec 32 := 1#32
  let v202 : BitVec 32 := Scalar.muli v7 c1_i32_232
  let v203 : BitVec 32 := Scalar.addi c0_i32_233 v202
  v203.toNat
def k0_dev12 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_242 : BitVec 32 := 1#32
  let v212 : BitVec 32 := Scalar.muli v5 c1_i32_242
  let v213 : BitVec 32 := Scalar.addi c0_i32_243 v212
  v213.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_323 : BitVec 32 := 1#32
  let v284 : BitVec 32 := Scalar.muli v5 c1_i32_323
  let v285 : BitVec 32 := Scalar.addi c0_i32_324 v284
  v285.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_326 : BitVec 32 := 1#32
  let v286 : BitVec 32 := Scalar.muli v7 c1_i32_326
  let v287 : BitVec 32 := Scalar.addi c0_i32_327 v286
  v287.toNat
def k0_dev15 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_334 : BitVec 32 := 1#32
  let v288 : BitVec 32 := Scalar.muli v7 c1_i32_334
  let v289 : BitVec 32 := Scalar.addi c0_i32_335 v288
  v289.toNat
def k0_dev16 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_344 : BitVec 32 := 1#32
  let v298 : BitVec 32 := Scalar.muli v5 c1_i32_344
  let v299 : BitVec 32 := Scalar.addi c0_i32_345 v298
  v299.toNat
def k0_dev17 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_424 : BitVec 32 := 1#32
  let v370 : BitVec 32 := Scalar.muli v5 c1_i32_424
  let v371 : BitVec 32 := Scalar.addi c0_i32_425 v370
  v371.toNat
def k0_dev18 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_427 : BitVec 32 := 1#32
  let v372 : BitVec 32 := Scalar.muli v7 c1_i32_427
  let v373 : BitVec 32 := Scalar.addi c0_i32_428 v372
  v373.toNat
def k0_dev19 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_435 : BitVec 32 := 1#32
  let v374 : BitVec 32 := Scalar.muli v7 c1_i32_435
  let v375 : BitVec 32 := Scalar.addi c0_i32_436 v374
  v375.toNat
def k0_dev20 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_445 : BitVec 32 := 1#32
  let v384 : BitVec 32 := Scalar.muli v5 c1_i32_445
  let v385 : BitVec 32 := Scalar.addi c0_i32_446 v384
  v385.toNat
def k0_dev21 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_525 : BitVec 32 := 1#32
  let v456 : BitVec 32 := Scalar.muli v5 c1_i32_525
  let v457 : BitVec 32 := Scalar.addi c0_i32_526 v456
  v457.toNat
def k0_dev22 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_528 : BitVec 32 := 1#32
  let v458 : BitVec 32 := Scalar.muli v7 c1_i32_528
  let v459 : BitVec 32 := Scalar.addi c0_i32_529 v458
  v459.toNat
def k0_dev23 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_536 : BitVec 32 := 1#32
  let v460 : BitVec 32 := Scalar.muli v7 c1_i32_536
  let v461 : BitVec 32 := Scalar.addi c0_i32_537 v460
  v461.toNat
def k0_dev24 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_546 : BitVec 32 := 1#32
  let v470 : BitVec 32 := Scalar.muli v5 c1_i32_546
  let v471 : BitVec 32 := Scalar.addi c0_i32_547 v470
  v471.toNat
def k0_dev25 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_626 : BitVec 32 := 1#32
  let v542 : BitVec 32 := Scalar.muli v5 c1_i32_626
  let v543 : BitVec 32 := Scalar.addi c0_i32_627 v542
  v543.toNat
def k0_dev26 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_629 : BitVec 32 := 1#32
  let v544 : BitVec 32 := Scalar.muli v7 c1_i32_629
  let v545 : BitVec 32 := Scalar.addi c0_i32_630 v544
  v545.toNat
def k0_dev27 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_637 : BitVec 32 := 1#32
  let v546 : BitVec 32 := Scalar.muli v7 c1_i32_637
  let v547 : BitVec 32 := Scalar.addi c0_i32_638 v546
  v547.toNat
def k0_dev28 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_647 : BitVec 32 := 1#32
  let v556 : BitVec 32 := Scalar.muli v5 c1_i32_647
  let v557 : BitVec 32 := Scalar.addi c0_i32_648 v556
  v557.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/-
# The kernel as seven copies of one hop

The printed body is one long sequence. Here it is read as what the source's loop says: the device's own id, then
seven times the same HOP, which differ only in the two blocks sent, in the parity of the hop and in the rows of the
result they store. A hop is: the neighbour barrier, the two sends (clockwise to the right, counterclockwise to the
left), the waits for them and for the two blocks arriving, and a block product of each block that arrived. The first
hop sends the two halves of the device's own `x` and multiplies them between the sends and the waits.
`body_eq_hops` says that the printed body is this program, by unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL.Sem

variable {F : FTy → Type} [FloatOps F]

/-- The program type of the body. -/
abbrev P (α : Type) : Type 1 := Prog (TpuEff nD τ sig (Elt F) Λ₀ .tc) α

/-! ## The buffers -/

abbrev xM : Memref sig .tc .hbm S1024x8192 .f32 := Memref.whole main_arg0
abbrev wM : Memref sig .tc .vmem S8192x512 .f32 := Memref.whole cc0_stg0_0
abbrev oM : Memref sig .tc .vmem S8192x512 .f32 := Memref.whole cc0_stg1_0
abbrev cwM : Memref sig .tc .hbm S2x512x8192 .f32 := Memref.whole main_v1_1
abbrev ccM : Memref sig .tc .hbm S2x512x8192 .f32 := Memref.whole main_v1_2
abbrev sM : Memref sig .tc .vmem S512x8192 .f32 := Memref.whole cc0_scratch0

/-- The upper and the lower half of the device's rows of `x`. -/
abbrev xHi : Memref sig .tc .hbm S512x8192 .f32 :=
  xM.slice (Rect.unit (s := S1024x8192) ![0, 0] S512x8192.size inb_S1024x8192_S512x8192_0_0) (fun _ => rfl)
abbrev xLo : Memref sig .tc .hbm S512x8192 .f32 :=
  xM.slice (Rect.unit (s := S1024x8192) ![512, 0] S512x8192.size inb_S1024x8192_S512x8192_512_0) (fun _ => rfl)

/-- Slot `p` (`false` the first, `true` the second) of a landing buffer. -/
def slot (b : Memref sig .tc .hbm S2x512x8192 .f32) (p : Bool) : Memref sig .tc .hbm S512x8192 .f32 :=
  match p with
  | false => (b.slice (Rect.unit (s := S2x512x8192) ![0, 0, 0] S1x512x8192.size inb_S2x512x8192_S1x512x8192_0_0_0) (fun _ => rfl)).squeeze S512x8192 squeezes_S1x512x8192_S512x8192
  | true => (b.slice (Rect.unit (s := S2x512x8192) ![1, 0, 0] S1x512x8192.size inb_S2x512x8192_S1x512x8192_1_0_0) (fun _ => rfl)).squeeze S512x8192 squeezes_S1x512x8192_S512x8192

/-- Semaphore `p` of a pair. -/
def semOf (a : DmaSems sig S2) (p : Bool) : DmaSem sig :=
  match p with
  | false => ((a.slice (Rect.unit (s := S2) ![0] S1.size inb_S2_S1_0)).squeeze S_ squeezes_S1_S_).sem
  | true => ((a.slice (Rect.unit (s := S2) ![1] S1.size inb_S2_S1_1)).squeeze S_ squeezes_S1_S_).sem

abbrev barS : Sem sig := (SemArray.scalar (sig.barrier 0 rfl) : Sems sig S_).sem

theorem wex (m : Memref sig .tc .hbm S512x8192 .f32) : m.view.WordExact := View.wordExact_bits rfl
theorem wexS : (sM).view.WordExact := (Memref.isWhole_whole _).wordExact

/-! ## The program -/

/-- The block product: `src` copied into the stage, multiplied with the device's columns of `w`, clamped below at zero,
    stored at rows `off`. -/
def gemm (src : Memref sig .tc .hbm S512x8192 .f32) (off : Fin 2 → Nat) (hoff : ∀ a, off a + S512x512.size a ≤ S8192x512.size a) :
    P (F := F) PUnit := do
  Prog.lift (.enqueueDma src (.here sM) (.dma cc0_scratch5.sem) (wex _) wexS ⟨Or.inl rfl, trivial⟩)
  Prog.lift (.waitDma2 cc0_scratch5.sem src sM (wex _) wexS)
  let v ← Prog.lift (.load sM (Rect.unit (s := S512x8192) ![0, 0] S512x8192.size inb_S512x8192_S512x8192_0_0).toLoadRect (View.loadsAt_vmem h_S512x8192))
  let w ← Prog.lift (.load wM (Rect.unit (s := S8192x512) ![0, 0] S8192x512.size inb_S8192x512_S8192x512_0_0).toLoadRect (View.loadsAt_vmem h_S8192x512))
  let _ ← Prog.lift (.load oM (Rect.unit (s := S8192x512) off S512x512.size hoff).toLoadRect (View.loadsAt_vmem h_S512x512))
  Prog.lift (.store oM (Rect.unit (s := S8192x512) off S512x512.size hoff) (k0_pay1 v w) Finset.univ (View.stores_vmem_bits_univ h_S512x512 rfl) (.inl rfl))

/-- The neighbour barrier: a signal to the left, one to the right, a wait for two. -/
def barrier (d : Dev nD) : P (F := F) PUnit := do
  semSignalWord (⟨k0_dev1 d, k0_dev1_lt d⟩ : Dev nD) barS 1#32
  semSignalWord (⟨k0_dev2 d, k0_dev2_lt d⟩ : Dev nD) barS 1#32
  semWaitWord barS 2#32

/-- The two sends of a hop of parity `p`: `a` clockwise, `b` counterclockwise, each into the other slot. -/
def sends (d : Dev nD) (a b : Memref sig .tc .hbm S512x8192 .f32) (p : Bool) : P (F := F) PUnit := do
  Prog.lift (.enqueueDma a (.remote (Dev.tc (⟨k0_dev3 d, k0_dev3_lt d⟩ : Dev nD)) (slot cwM (!p)) (.dma (semOf cc0_scratch1 p))) (.dma (semOf cc0_scratch2 (!p))) (wex _) (wex _) ⟨⟨rfl, Or.inl rfl⟩, trivial⟩)
  Prog.lift (.enqueueDma b (.remote (Dev.tc (⟨k0_dev4 d, k0_dev4_lt d⟩ : Dev nD)) (slot ccM (!p)) (.dma (semOf cc0_scratch3 p))) (.dma (semOf cc0_scratch4 (!p))) (wex _) (wex _) ⟨⟨rfl, Or.inl rfl⟩, trivial⟩)

/-- The four waits of a hop: each send, then the block arriving the same way. -/
def recvs (a b : Memref sig .tc .hbm S512x8192 .f32) (p : Bool) : P (F := F) PUnit := do
  Prog.lift (.waitDma2 (semOf cc0_scratch1 p) (slot cwM (!p)) a (wex _) (wex _))
  Prog.lift (.waitDma2 (semOf cc0_scratch2 (!p)) a (slot cwM (!p)) (wex _) (wex _))
  Prog.lift (.waitDma2 (semOf cc0_scratch3 p) (slot ccM (!p)) b (wex _) (wex _))
  Prog.lift (.waitDma2 (semOf cc0_scratch4 (!p)) b (slot ccM (!p)) (wex _) (wex _))

/-- The products of the two blocks that arrived in hop `r`. -/
def prods (d : Dev nD) (r : Fin 7) (p : Bool) : P (F := F) PUnit := do
  gemm (slot cwM (!p)) (k0_off3 d (BitVec.ofNat 32 r.val)) (k0_off3_inb d r)
  gemm (slot ccM (!p)) (k0_off4 d (BitVec.ofNat 32 r.val)) (k0_off4_inb d r)

/-- The first hop: the sends are of the device's own rows, and its own two products stand between sends and waits. -/
def hop0 (d : Dev nD) : P (F := F) PUnit := do
  barrier d
  sends d xHi xLo false
  gemm xHi (k0_off1 d) (k0_off1_inb d)
  gemm xLo (k0_off2 d) (k0_off2_inb d)
  recvs xHi xLo false
  prods d 0 false

/-- A later hop, of parity `p`: what arrived in the last hop is passed on. -/
def hopS (d : Dev nD) (r : Fin 7) (p : Bool) : P (F := F) PUnit := do
  barrier d
  sends d (slot cwM p) (slot ccM p) p
  recvs (slot cwM p) (slot ccM p) p
  prods d r p

/-- The whole body. -/
def hops : P (F := F) PUnit := do
  let d ← Prog.lift .deviceId
  hop0 d
  hopS d 1 true
  hopS d 2 false
  hopS d 3 true
  hopS d 4 false
  hopS d 5 true
  hopS d 6 false

set_option maxRecDepth 65536 in
set_option maxHeartbeats 4000000 in
theorem body_eq_hops : (cc0_body xM (Memref.isWhole_whole _) wM (Memref.isWhole_whole _) oM (Memref.isWhole_whole _) cwM (Memref.isWhole_whole _) ccM (Memref.isWhole_whole _)
    sM (Memref.isWhole_whole _) cc0_scratch1 cc0_scratch2 cc0_scratch3 cc0_scratch4 cc0_scratch5 : P (F := F) PUnit) = hops := by
  rfl

end Cert.Ring
-- ==== Proof.Common.lean ====
/-
# The protocol

Two streams go round the ring: clockwise (`true`) the upper halves of the blocks of `x`, counterclockwise (`false`) the
lower ones. In hop `h` a device sends message `h` of each stream to the next device of that stream, `tow δ c`; message
`h` at device `c` is the half block that started `h` devices back, `frmN δ h c`. Message 0 is read out of `x`, message
`h ≥ 1` out of slot `par h` of the stream's landing buffer, where hop `h - 1` put it.

Cells of a device, and their rounds (the rounds library, duty names `Bool`):

* the barrier: round `h` has the two duties `true` and `false`, of one unit. Duty `δ` is paid by `tow δ c`, which
  hands over its free slot of stream `δ` — the one `c` is about to send into — and that its receive cell has reached
  the round of this hop;
* `send δ p`: the transfers of the hops of parity `p`. The round of hop `h` hands back the source of message `h`;
* `recv δ p`: the landings of the hops of parity `p`. The round of hop `h` hands over the slot holding message `h + 1`, and that
  the sender's barrier has reached round `h + 1`;
* the local copy's: round `r` fills the stage with message `r / 2` of the clockwise (`r` even) or the counterclockwise
  stream, and hands back the source.

A device owes both neighbours one barrier unit and one landing in each hop. Levels: the barrier of hop `h` at `2h + 1`,
the landing of hop `h` at `2h + 2`, everything else at 0; whatever is waited for lies below what is still owed.
-/
module

public import proofs.«01_k».proof.Proof.Prog
public import Mathlib.Algebra.BigOperators.Intervals

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

variable (m : (ℓ : Loc nD τ sig) → Buf (Elt F) ℓ)

/-! ## The ring -/

set_option backward.proofsInPublic true in
def rgt (c : Dev nD) : Dev nD := ⟨(c.val + 1) % 8, Nat.mod_lt _ (by decide)⟩
set_option backward.proofsInPublic true in
def lft (c : Dev nD) : Dev nD := ⟨(c.val + 7) % 8, Nat.mod_lt _ (by decide)⟩

/-- The next device of stream `δ`, and the one before. -/
abbrev tow (δ : Bool) (c : Dev nD) : Dev nD := match δ with | true => rgt c | false => lft c
abbrev frm (δ : Bool) (c : Dev nD) : Dev nD := match δ with | true => lft c | false => rgt c

/-- Where message `n` of stream `δ` at device `c` started. -/
def frmN (δ : Bool) : ℕ → Dev nD → Dev nD
  | 0, c => c
  | n + 1, c => frmN δ n (frm δ c)

theorem tow_frm (δ : Bool) (c : Dev nD) : tow δ (frm δ c) = c := by revert δ c; decide
theorem frm_tow (δ : Bool) (c : Dev nD) : frm δ (tow δ c) = c := by revert δ c; decide

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) : (⟨k0_dev3 c, k0_dev3_lt c⟩ : Dev nD) = rgt c := Fin.ext (k0_dev3_eq c)
theorem dev4_eq (c : Dev nD) : (⟨k0_dev4 c, k0_dev4_lt c⟩ : Dev nD) = lft c := Fin.ext (k0_dev4_eq c)

theorem frmN_val (δ : Bool) (n : ℕ) (c : Dev nD) (h : n ≤ 8) :
    (frmN δ n c).val = match δ with | true => (c.val + (8 - n)) % 8 | false => (c.val + n) % 8 := by
  induction n generalizing c with
  | zero => have : c.val < 8 := c.isLt; cases δ <;> simp only [frmN] <;> omega
  | succ n ih =>
    rw [frmN, ih _ (by omega)]
    have : c.val < 8 := c.isLt
    cases δ <;> simp only [frm, lft, rgt] <;> omega

/-! ## Streams, hops, cells -/

abbrev buf (δ : Bool) : Memref sig .tc .hbm S2x512x8192 .f32 := match δ with | true => cwM | false => ccM
abbrev xh (δ : Bool) : Memref sig .tc .hbm S512x8192 .f32 := match δ with | true => xHi | false => xLo
abbrev sArr (δ : Bool) : DmaSems sig S2 := match δ with | true => cc0_scratch1 | false => cc0_scratch3
abbrev rArr (δ : Bool) : DmaSems sig S2 := match δ with | true => cc0_scratch2 | false => cc0_scratch4

/-- The parity of a hop. -/
def par (h : ℕ) : Bool := h % 2 == 1
/-- How many hops before `h` have parity `p`. -/
def cnt (p : Bool) (h : ℕ) : ℕ := match p with | true => h / 2 | false => (h + 1) / 2

theorem par_true {h : ℕ} (e : h % 2 = 1) : par h = true := by simp [par, e]
theorem par_false {h : ℕ} (e : h % 2 = 0) : par h = false := by simp [par, e]
theorem par_succ (h : ℕ) : par (h + 1) = !par h := by
  rcases Nat.mod_two_eq_zero_or_one h with e | e
  · rw [par_false e, par_true (by omega)]; rfl
  · rw [par_true e, par_false (by omega)]; rfl
theorem cnt_par (h : ℕ) : cnt (par h) h = h / 2 := by
  rcases Nat.mod_two_eq_zero_or_one h with e | e
  · rw [par_false e]; simp only [cnt]; omega
  · rw [par_true e]; simp only [cnt]
theorem cnt_par_succ (h : ℕ) : cnt (par h) (h + 1) = h / 2 + 1 := by
  rcases Nat.mod_two_eq_zero_or_one h with e | e
  · rw [par_false e]; simp only [cnt]; omega
  · rw [par_true e]; simp only [cnt]; omega
theorem cnt_npar_succ (h : ℕ) : cnt (!par h) (h + 1) = cnt (!par h) h := by
  rcases Nat.mod_two_eq_zero_or_one h with e | e
  · rw [par_false e]; simp only [cnt, Bool.not_false]; omega
  · rw [par_true e]; simp only [cnt, Bool.not_true]; omega
/-- The hop that round `r` of a cell of parity `p` belongs to. -/
abbrev hopOf (p : Bool) (r : ℕ) : ℕ := 2 * r + p.toNat
theorem hopOf_par (h : ℕ) : hopOf (par h) (h / 2) = h := by
  rcases Nat.mod_two_eq_zero_or_one h with e | e
  · rw [par_false e]; simp only [hopOf, Bool.toNat_false]; omega
  · rw [par_true e]; simp only [hopOf, Bool.toNat_true]; omega

/-- The cells of a device; a receive cell is named by the parity of its hops (its semaphore is the other one of the pair). -/
inductive Cell where
  | bar | send (δ p : Bool) | recv (δ p : Bool) | copy
  deriving DecidableEq

def Cell.list : List Cell :=
  [.bar, .send true false, .send true true, .recv true false, .recv true true, .send false false, .send false true,
    .recv false false, .recv false true, .copy]
theorem Cell.mem_list (k : Cell) : k ∈ Cell.list := by
  rcases k with _ | ⟨_ | _, _ | _⟩ | ⟨_ | _, _ | _⟩ | _ <;> decide
theorem Cell.nodup_list : Cell.list.Nodup := by decide
instance : Fintype Cell := ⟨⟨Cell.list, Cell.nodup_list⟩, Cell.mem_list⟩

abbrev Cell.sem : Cell → SemLoc sig
  | .bar => .reg barS
  | .send δ p => .dma (semOf (sArr δ) p)
  | .recv δ p => .dma (semOf (rArr δ) (!p))
  | .copy => .dma cc0_scratch5.sem

def ofSem (s : SemLoc sig) : Option Cell := Cell.list.find? fun k => k.sem = s
theorem ofSem_sem (k : Cell) : ofSem k.sem = some k := by
  rcases k with _ | ⟨_ | _, _ | _⟩ | ⟨_ | _, _ | _⟩ | _ <;> decide
theorem Cell.sem_injective : Function.Injective Cell.sem := fun a b h =>
  Option.some.inj ((ofSem_sem a).symm.trans ((congrArg ofSem h).trans (ofSem_sem b)))

abbrev cell (c : Dev nD) (k : Cell) : GSem nD τ sig := ((c : Thread nD τ), k.sem)

/-- A half block's credit. -/
def N : ℕ := (slot cwM false).view.dmaCredit
theorem N_pos : 0 < N := View.dmaCredit_pos _ (by decide)
theorem amount_slot (δ p : Bool) (s : DmaSem sig) : (slot (buf δ) p).view.amount (.dma s) = N := by
  cases δ <;> cases p <;> rfl
theorem credit_slot (δ p : Bool) : (slot (buf δ) p).view.dmaCredit = N := by cases δ <;> cases p <;> rfl
theorem credit_xh (δ : Bool) : (xh δ).view.dmaCredit = N := by cases δ <;> rfl
theorem credit_stage : (sM).view.dmaCredit = N := rfl

/-! ## Contents -/

/-- Device `c`'s upper (`true`) or lower half block of `x`. -/
def half (δ : Bool) (c : Dev nD) : S512x8192.Idx → Elt F .f32 :=
  (xh δ).view.read (Elt F) (m ((xh δ).view.loc (c : Thread nD τ)))

/-- Where message `n` of stream `δ` lies. -/
abbrev srcM (δ : Bool) (n : ℕ) : Memref sig .tc .hbm S512x8192 .f32 := match n with
  | 0 => xh δ
  | n + 1 => slot (buf δ) (par (n + 1))
abbrev srcSh (n : ℕ) (sh : PosShare TreeShare) : PosShare TreeShare := match n with
  | 0 => sh
  | _ + 1 => fullShare

/-- Message `n` of stream `δ` at device `c`: the share `sh` of it, if it still lies in `x`. -/
def srcHas (c : Dev nD) (δ : Bool) (n : ℕ) (sh : PosShare TreeShare) : sProp 𝕄 :=
  iprop(∃ f, ⌜(srcM δ n).view.read (Elt F) f = half m δ (frmN δ n c)⌝
    ∗ (srcM δ n).view.loc (c : Thread nD τ) ↦[(srcM δ n).view.set]{srcSh n sh} f)
/-- A slot holding anything. -/
def freeSlot (c : Dev nD) (δ p : Bool) : sProp 𝕄 :=
  iprop(∃ f, (slot (buf δ) p).view.loc (c : Thread nD τ) ↦[(slot (buf δ) p).view.set]{fullShare} f)
def stageHas (c : Dev nD) (v : S512x8192.Idx → Elt F .f32) : sProp 𝕄 :=
  iprop(∃ f, ⌜(sM).view.read (Elt F) f = v⌝ ∗ (sM).view.loc (c : Thread nD τ) ↦[(sM).view.set]{fullShare} f)

omit [FloatOps F] in
instance srcHas_storable (c : Dev nD) (δ : Bool) (n : ℕ) (sh) : BI.Storable (upEmb : UEmb _ 𝕄) (srcHas m c δ n sh) := by
  unfold srcHas; infer_instance
omit [FloatOps F] in
instance freeSlot_storable (c : Dev nD) (δ p : Bool) : BI.Storable (upEmb : UEmb _ 𝕄) (freeSlot (F := F) c δ p) := by
  unfold freeSlot; infer_instance
omit [FloatOps F] in
instance stageHas_storable (c : Dev nD) (v) : BI.Storable (upEmb : UEmb _ 𝕄) (stageHas (F := F) c v) := by
  unfold stageHas; infer_instance

omit [FloatOps F] in
/-- A slot whose message has been passed on is free again. -/
theorem srcHas_free (c : Dev nD) (δ : Bool) (n : ℕ) (sh) : srcHas m c δ (n + 1) sh ⊢ freeSlot c δ (par (n + 1)) := by
  unfold srcHas freeSlot
  iintro ⟨%f, -, H⟩
  iexists f; iexact H

/-! ## The schedule -/

/-- The stream and the message of round `r` of the local copy. -/
abbrev cStr (r : ℕ) : Bool := r % 2 == 0
abbrev cMsg (r : ℕ) : ℕ := r / 2

def Cell.duties : Cell → ℕ → Finset Bool
  | .bar, r => if r < 7 then Finset.univ else ∅
  | .send _ p, r => if hopOf p r < 7 then {false} else ∅
  | .recv _ p, r => if hopOf p r < 7 then {false} else ∅
  | .copy, r => if r < 16 then {false} else ∅

def Cell.amount : Cell → ℕ
  | .bar => 1
  | _ => N
theorem Cell.amount_pos (k : Cell) : 0 < k.amount := by cases k <;> first | exact Nat.one_pos | exact N_pos

def Cell.payload (c : Dev nD) : Cell → ℕ → Bool → sProp 𝕄
  | .bar, h, δ => iprop(freeSlot (tow δ c) δ (!par h) ∗ reached ER (cell (tow δ c) (.recv δ (par h))) (h / 2))
  | .send δ p, r, _ => srcHas m c δ (hopOf p r) fullShare.left
  | .recv δ p, r, _ => iprop(srcHas m c δ (hopOf p r + 1) fullShare.left ∗ reached ER (cell (frm δ c) .bar) (hopOf p r + 1))
  | .copy, r, _ => iprop(stageHas c (half m (cStr r) (frmN (cStr r) (cMsg r) c)) ∗ srcHas m c (cStr r) (cMsg r) fullShare.right)

def Rd : Rounds.Schedule (GSem nD τ sig) Bool 𝕄 where
  duties g r := match ofSem g.2 with | some k => k.duties r | none => ∅
  unitless _ := False
  amount g _ _ := match ofSem g.2 with | some k => k.amount | none => 1
  payload g r d := match ofSem g.2 with | some k => k.payload m g.1.1 r d | none => iprop(emp)
  amount_pos g _ _ _ := by
    cases ofSem g.2 with
    | none => exact Nat.one_pos
    | some k => exact k.amount_pos

omit [FloatOps F] in
instance payload_storable (c : Dev nD) (k : Cell) (r : ℕ) (d : Bool) : BI.Storable (upEmb : UEmb _ 𝕄) (k.payload m c r d) := by
  cases k <;> simp only [Cell.payload] <;> infer_instance
omit [FloatOps F] in
instance Rd_payload_storable (g : GSem nD τ sig) (r : ℕ) (d : Bool) : BI.Storable (upEmb : UEmb _ 𝕄) ((Rd m).payload g r d) := by
  show BI.Storable upEmb (match ofSem g.2 with | some k => k.payload m g.1.1 r d | none => iprop(emp))
  cases ofSem g.2 <;> infer_instance

section Sched
variable (c : Dev nD) (k : Cell)

omit [FloatOps F] in
theorem duties_eq (r : ℕ) : (Rd m).duties (cell c k) r = k.duties r := by
  show (match ofSem k.sem with | some k => k.duties r | none => ∅) = _
  rw [ofSem_sem]
omit [FloatOps F] in
theorem amount_eq (r : ℕ) (d : Bool) : (Rd m).amount (cell c k) r d = k.amount := by
  show (match ofSem k.sem with | some k => k.amount | none => 1) = _
  rw [ofSem_sem]
omit [FloatOps F] in
theorem payload_eq (r : ℕ) (d : Bool) : (Rd m).payload (cell c k) r d = k.payload m c r d := by
  show (match ofSem k.sem with | some k => k.payload m c r d | none => iprop(emp)) = _
  rw [ofSem_sem]

omit [FloatOps F] in
theorem expect_bar {h : ℕ} (hh : h < 7) : (Rd m).expect (cell c .bar) h = 2 := by
  unfold Schedule.expect Schedule.amountOf
  rw [duties_eq, Finset.sum_congr rfl fun d _ => amount_eq m c .bar h d, Finset.sum_const]
  simp only [Cell.duties, if_pos hh, Cell.amount]; rfl
omit [FloatOps F] in
/-- A round with the one duty `false`. -/
theorem expect_one {r : ℕ} (hr : k.duties r = {false}) : (Rd m).expect (cell c k) r = k.amount := by
  unfold Schedule.expect Schedule.amountOf
  rw [duties_eq, hr, Finset.sum_singleton, amount_eq]
omit [FloatOps F] in
theorem rest_one {r : ℕ} (hr : k.duties r = {false}) :
    bigSep ((Rd m).duties (cell c k) r \ ∅) (fun d => (Rd m).payload (cell c k) r d) = k.payload m c r false := by
  rw [Finset.sdiff_empty, duties_eq, hr, bigSep_singleton, payload_eq]
omit [FloatOps F] in
theorem rest_bar {h : ℕ} (hh : h < 7) :
    bigSep ((Rd m).duties (cell c .bar) h \ ∅) (fun d => (Rd m).payload (cell c .bar) h d)
      = iprop(Cell.payload m c .bar h true ∗ Cell.payload m c .bar h false) := by
  rw [Finset.sdiff_empty, duties_eq, show Cell.duties .bar h = Finset.univ from if_pos hh,
    bigSep_univ_eq_bigSepL [true, false] (by decide) (by decide), bigSepL_cons_cons, bigSepL_singleton, payload_eq, payload_eq]
  rfl
end Sched

theorem duties_send {h : ℕ} (δ : Bool) (hh : h < 7) : Cell.duties (.send δ (par h)) (h / 2) = {false} := by
  simp only [Cell.duties, hopOf_par, if_pos hh]
theorem duties_recv {h : ℕ} (δ : Bool) (hh : h < 7) : Cell.duties (.recv δ (par h)) (h / 2) = {false} := by
  simp only [Cell.duties, hopOf_par, if_pos hh]
theorem duties_copy {r : ℕ} (hr : r < 16) : Cell.duties .copy r = {false} := by
  simp only [Cell.duties, if_pos hr]
theorem duties_bar {h : ℕ} (d : Bool) (hh : h < 7) : d ∈ Cell.duties .bar h := by
  simp only [Cell.duties, if_pos hh, Finset.mem_univ]

omit [FloatOps F] in
theorem payload_send (c : Dev nD) (δ : Bool) (h : ℕ) :
    Cell.payload m c (.send δ (par h)) (h / 2) false = srcHas m c δ h fullShare.left := by
  simp only [Cell.payload, hopOf_par]
omit [FloatOps F] in
theorem payload_recv (c : Dev nD) (δ : Bool) (h : ℕ) :
    Cell.payload m c (.recv δ (par h)) (h / 2) false
      = iprop(srcHas m c δ (h + 1) fullShare.left ∗ reached ER (cell (frm δ c) .bar) (h + 1)) := by
  simp only [Cell.payload, hopOf_par]

/-! ## What a device owes; the levels -/

abbrev tB (c : Dev nD) (h : ℕ) : CellTallies nD τ sig ℕ := tallyAt (cell c .bar) h 1
abbrev tR (c : Dev nD) (δ : Bool) (h : ℕ) : CellTallies nD τ sig ℕ := tallyAt (cell c (.recv δ (par h))) h N

def hopOwes (c : Dev nD) (h : ℕ) : CellTallies nD τ sig ℕ :=
  tR (lft c) false h + tR (rgt c) true h + tB (rgt c) h + tB (lft c) h
/-- What is owed from hop `h` on. -/
def Ow (c : Dev nD) (h : ℕ) : CellTallies nD τ sig ℕ := ∑ h' ∈ Finset.Ico h 7, hopOwes c h'

theorem Ow_step (c : Dev nD) {h : ℕ} (hh : h < 7) :
    Ow c h = Ow c (h + 1) + tR (lft c) false h + tR (rgt c) true h + tB (rgt c) h + tB (lft c) h := by
  unfold Ow; rw [Finset.sum_eq_sum_Ico_succ_bot hh, hopOwes, add_comm]; simp only [← add_assoc]
theorem Ow_end (c : Dev nD) : Ow c 7 = 0 := by unfold Ow; rw [Finset.Ico_self, Finset.sum_empty]

def Cell.lv : Cell → ℕ → ℕ
  | .bar, h => 2 * h + 1
  | .recv _ _, h => 2 * h + 2
  | _, _ => 0
def L (g : GSem nD τ sig) : Finset ℕ := if g.1.2 = .tc then Finset.range 8 else ∅
def lv (g : GSem nD τ sig) (h : ℕ) : ℕ := match ofSem g.2 with | some k => k.lv h | none => 0

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Cell) (h : ℕ) : lv (cell c k) h = k.lv h := by
  show (match ofSem k.sem with | some k => k.lv h | none => 0) = _
  rw [ofSem_sem]

/-- What is owed lies at a TensorCore's cell, at a hop's index, above the level `b`. -/
def Above (b : ℕ) (O : CellTallies nD τ sig ℕ) : Prop := ∀ g ι, 0 < O g ι → g.1.2 = .tc ∧ ι < 8 ∧ b < lv g ι

theorem Above.zero (b : ℕ) : Above b 0 := fun g ι h => absurd h (Nat.lt_irrefl 0)
theorem Above.add {b : ℕ} {O O' : CellTallies nD τ sig ℕ} (h : Above b O) (h' : Above b O') : Above b (O + O') := fun g ι hp => by
  rw [Pi.add_apply, Finsupp.add_apply] at hp
  rcases Nat.eq_zero_or_pos (O g ι) with e | e
  · exact h' g ι (by omega)
  · exact h g ι e
theorem Above.tally {b h n : ℕ} (c : Dev nD) (k : Cell) (hh : h < 8) (hb : b < k.lv h) : Above b (tallyAt (cell c k) h n) := fun g ι hp => by
  rw [tallyAt_apply] at hp
  by_cases e : g = cell c k ∧ ι = h
  · obtain ⟨rfl, rfl⟩ := e; exact ⟨rfl, hh, by rw [lv_cell]; exact hb⟩
  · rw [if_neg e] at hp; exact absurd hp (Nat.lt_irrefl 0)
theorem Above.Ow (c : Dev nD) (h : ℕ) : Above (2 * h) (Ow c h) := by
  unfold Cert.Ring.Ow
  refine Finset.sum_induction _ (Above (2 * h)) (fun _ _ => Above.add) (Above.zero _) fun h' hm => ?_
  have := Finset.mem_Ico.mp hm
  exact (((Above.tally _ _ (by omega) (by simp only [Cell.lv]; omega)).add (Above.tally _ _ (by omega) (by simp only [Cell.lv]; omega))).add
    (Above.tally _ _ (by omega) (by simp only [Cell.lv]; omega))).add (Above.tally _ _ (by omega) (by simp only [Cell.lv]; omega))
theorem Above.mono {a b : ℕ} {O : CellTallies nD τ sig ℕ} (h : Above b O) (hab : a ≤ b) : Above a O := fun g ι hp =>
  ⟨(h g ι hp).1, (h g ι hp).2.1, Nat.lt_of_le_of_lt hab (h g ι hp).2.2⟩

omit [FloatOps F] in
/-- A wait at a level below what is owed. -/
theorem mayWait {b : ℕ} {O : CellTallies nD τ sig ℕ} (hO : Above b O) (c : Dev nD) (sm : SemLoc sig) {ι : ℕ} (hι : ι < 8)
    (hb : lv ((c : Thread nD τ), sm) ι ≤ b) : (levAts L lv : sProp 𝕄) ⊢ MayWait (c : Thread nD τ) sm ι O :=
  MayOwe.of_cut (L := L) (lev := lv) b
    (fun p hp => by rw [Finset.mem_singleton.mp hp, L_tc]; exact Finset.mem_range.mpr hι)
    (fun g u hg => by unfold L; rw [if_pos (hO g u hg).1]; exact Finset.mem_range.mpr (hO g u hg).2.1)
    (fun p hp => by rw [Finset.mem_singleton.mp hp]; exact hb)
    (fun g u hg => (hO g u hg).2.2)

end Cert.Ring

end
-- ==== Proof.Steps.lean ====
/-
# The steps of a hop

What each part of a hop does to the protocol's resources, one statement per part: the barrier, a send, the two waits of a
stream, and a block product.
-/
module

public import proofs.«01_k».proof.Proof.Common

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Cell → ℕ)

/-- Every cell's invariant, under the names the launch allocated them at. -/
def Inv : sProp 𝕄 := bigSep Finset.univ fun ck : Dev nD × Cell => cellInv ER (Rd m) (K ck) (cell ck.1 ck.2)

omit [FloatOps F] in
instance Inv_persistent : BI.Persistent (Inv m K) := by unfold Inv; infer_instance
omit [FloatOps F] in
theorem inv_at (c : Dev nD) (k : Cell) : Inv m K ⊢ cellInv ER (Rd m) (K (c, k)) (cell c k) :=
  bigSep_elim (Finset.mem_univ (c, k))

def owesE (c : Dev nD) (O : CellTallies nD τ sig ℕ) : sProp 𝕄 := iprop(∃ W, owes (c : Thread nD τ) O W)

abbrev WP (c : Dev nD) (p : P (F := F) PUnit) (Kt : PUnit → sProp 𝕄) : sProp 𝕄 :=
  wp frame (wpE (defs₀ (F := F)) 𝒱₀ (c : Thread nD τ) none) Set.univ p Kt

/-- What a device hands the one before it in stream `δ` at the barrier of hop `h`. -/
def give (c : Dev nD) (δ : Bool) (h : ℕ) : sProp 𝕄 :=
  iprop(freeSlot c δ (!par h) ∗ reached ER (cell c (.recv δ (par h))) (h / 2))

omit [FloatOps F] in
theorem payload_bar (c : Dev nD) (h : ℕ) (δ : Bool) : Cell.payload m c .bar h δ = give (tow δ c) δ h := rfl

/-- The barrier. -/
theorem wp_barrier (c : Dev nD) {h : ℕ} (hh : h < 7) (Kt : PUnit → sProp 𝕄) :
    iprop(Inv m K ∗ levAts L lv ∗ owesE c (Ow c h) ∗ atPos ER (cell c .bar) h ∅ 0
        ∗ reached ER (cell (lft c) .bar) h ∗ reached ER (cell (rgt c) .bar) h
        ∗ dutyTok ER (cell (lft c) .bar) h true ∗ dutyTok ER (cell (rgt c) .bar) h false
        ∗ cred (tallyAt (cell c .bar) h 2) ∗ give c true h ∗ give c false h
        ∗ ((owesE c (Ow c (h + 1) + tR (lft c) false h + tR (rgt c) true h) ∗ atPos ER (cell c .bar) (h + 1) ∅ 0
            ∗ reached ER (cell c .bar) (h + 1) ∗ give (rgt c) true h ∗ give (lft c) false h) -∗ Kt ⟨⟩))
      ⊢ WP c (barrier c) Kt := by
  unfold barrier WP owesE
  simp only [semSignalWord, semWaitWord, Prog.lift, Prog.bind_op, Prog.bind_ret, Prog.pure_eq_ret, dev1_eq c, dev2_eq c]
  iintro ⟨#HI, #Hlev, ⟨%W, HO⟩, Hat, #HrL, #HrR, HtL, HtR, Hc, Hg1, Hg2, Hk⟩
  rw [Ow_step c hh]
  iapply (Rounds.wp_signal 𝒱₀ ER (Rd m) (c : Thread nD τ) none (dst := (lft c : Thread nD τ)) (κ := K (lft c, .bar))
      (d := true) (r := h) (by rw [duties_eq m (lft c) .bar]; exact duties_bar _ hh) ((amount_eq m (lft c) .bar h true).trans (by decide)) h
      (Ow c (h + 1) + tR (lft c) false h + tR (rgt c) true h + tB (rgt c) h) rfl)
    $$ [HO HtL Hg1]
  · isplitr; · iapply (inv_at m K (lft c) .bar); iexact HI
    isplitl [HO]; · iexact HO
    isplitl [HtL]; · iexact HtL
    isplitl [Hg1]
    · rw [payload_eq m (lft c) .bar, payload_bar, show tow true (lft c) = c from tow_frm true c]; iexact Hg1
    iexact HrL
  iintro HO
  iapply (Rounds.wp_signal 𝒱₀ ER (Rd m) (c : Thread nD τ) none (dst := (rgt c : Thread nD τ)) (κ := K (rgt c, .bar))
      (d := false) (r := h) (by rw [duties_eq m (rgt c) .bar]; exact duties_bar _ hh) ((amount_eq m (rgt c) .bar h false).trans (by decide)) h
      (Ow c (h + 1) + tR (lft c) false h + tR (rgt c) true h) rfl)
    $$ [HO HtR Hg2]
  · isplitr; · iapply (inv_at m K (rgt c) .bar); iexact HI
    isplitl [HO]; · iexact HO
    isplitl [HtR]; · iexact HtR
    isplitl [Hg2]
    · rw [payload_eq m (rgt c) .bar, payload_bar, show tow false (rgt c) = c from tow_frm false c]; iexact Hg2
    iexact HrR
  iintro HO
  iapply (Rounds.wp_wait_rest_token 𝒱₀ ER (Rd m) (c : Thread nD τ) none (κ := K (c, .bar))
      (wpE_semWait_eq 𝒱₀ (c : Thread nD τ) none Set.univ) (Set.mem_univ _) h (O := Ow c (h + 1) + tR (lft c) false h + tR (rgt c) true h) (W := W) (R := h) (m := 0) (T := ∅)
      (by rw [expect_bar m c hh]; decide)) $$ [Hc HO Hat]
  · isplitr; · iapply (inv_at m K c .bar); iexact HI
    isplitl [Hc]; · iexact Hc
    isplitl [HO]; · iexact HO
    isplitr
    · iapply (mayWait (b := 2 * h + 1)
        ((((Above.Ow c (h + 1)).mono (by omega)).add (Above.tally _ _ (by omega) (by simp only [Cell.lv]; omega))).add
          (Above.tally _ _ (by omega) (by simp only [Cell.lv]; omega))) c (.reg barS) (ι := h) (by omega)
        (by rw [lv_cell c .bar]; exact Nat.le_refl _))
      iexact Hlev
    iexact Hat
  iintro ⟨HO, Hat, Hr, Hpay⟩
  ihave Hp := (Entails.of_eq (show _ = iprop(give (rgt c) true h ∗ give (lft c) false h) from rest_bar m c hh)) $$ Hpay
  icases Hp with ⟨Hp1, Hp2⟩
  rw [wp_ret]; imodintro
  iapply Hk
  isplitl [HO]; · iexists _; iexact HO
  isplitl [Hat]; · iexact Hat
  isplitl [Hr]; · iexact Hr
  isplitl [Hp1]; · iexact Hp1
  iexact Hp2

/-- One send, to device `n`. -/
def send1 (δ : Bool) (n : Dev nD) (a : Memref sig .tc .hbm S512x8192 .f32) (p : Bool) : P (F := F) PUnit :=
  Prog.lift (.enqueueDma a (.remote (Dev.tc n) (slot (buf δ) (!p)) (.dma (semOf (sArr δ) p)) (by cases δ <;> cases p <;> rfl))
    (.dma (semOf (rArr δ) (!p))) (wex _) (wex _) ⟨⟨rfl, Or.inl rfl⟩, trivial⟩)

theorem sends_eq (c : Dev nD) (a b : Memref sig .tc .hbm S512x8192 .f32) (p : Bool) :
    (sends c a b p : P (F := F) PUnit) = (send1 true (rgt c) a p >>= fun _ => send1 false (lft c) b p) := by
  rw [← dev3_eq c, ← dev4_eq c]; rfl

omit [FloatOps F] in
/-- A landed block is the receiver's next message. -/
theorem srcHas_landed (c : Dev nD) (δ : Bool) (h : ℕ) (sh) (f : Buf (Elt F) ((slot (buf δ) (!par h)).view.loc (c : Thread nD τ)))
    (hf : (slot (buf δ) (!par h)).view.read (Elt F) f = half m δ (frmN δ (h + 1) c)) :
    ((slot (buf δ) (!par h)).view.loc (c : Thread nD τ) ↦[(slot (buf δ) (!par h)).view.set]{fullShare} f : sProp 𝕄) ⊢ srcHas m c δ (h + 1) sh := by
  have key : ∀ p, p = par (h + 1) → ∀ f : Buf (Elt F) ((slot (buf δ) p).view.loc (c : Thread nD τ)),
      (slot (buf δ) p).view.read (Elt F) f = half m δ (frmN δ (h + 1) c) →
      ((slot (buf δ) p).view.loc (c : Thread nD τ) ↦[(slot (buf δ) p).view.set]{fullShare} f : sProp 𝕄) ⊢ srcHas m c δ (h + 1) sh := by
    intro p hp f hf
    subst hp
    unfold srcHas
    iintro H
    iexists f
    isplitr; · ipureintro; exact hf
    iexact H
  exact key _ (par_succ h).symm f hf

/-- A send of hop `h`, into the slot the receiver freed. -/
theorem wp_send1 (c : Dev nD) (δ : Bool) {h : ℕ} (hh : h < 7) (O : CellTallies nD τ sig ℕ) (Kt : PUnit → sProp 𝕄) :
    iprop(Inv m K ∗ owesE c (O + tR (tow δ c) δ h) ∗ give (tow δ c) δ h ∗ srcHas m c δ h fullShare.left
        ∗ dutyTok ER (cell c (.send δ (par h))) (h / 2) false ∗ reached ER (cell c (.send δ (par h))) (h / 2)
        ∗ dutyTok ER (cell (tow δ c) (.recv δ (par h))) (h / 2) false ∗ reached ER (cell c .bar) (h + 1)
        ∗ ((owesE c O ∗ cred (tallyAt (cell c (.send δ (par h))) 0 N)) -∗ Kt ⟨⟩))
      ⊢ WP c (send1 δ (tow δ c) (srcM δ h) (par h)) Kt := by
  unfold send1 WP owesE give srcHas freeSlot
  simp only [Prog.lift]
  iintro ⟨#HI, ⟨%W, HO⟩, ⟨⟨%fd, Hd⟩, #Hrr⟩, ⟨%fs, %hfs, Hs⟩, HtS, #HrS, HtR, #HrB, Hk⟩
  iapply (Rounds.wp_send_pointsTo_with 𝒱₀ ER (Rd m) (c : Thread nD τ) none (κ₁ := K (c, .send δ (par h))) (κ₂ := K (tow δ c, .recv δ (par h)))
      (F := reached ER (cell c .bar) (h + 1)) (fs := fs) (fd := fd) (q := srcSh h fullShare.left)
      (r₁ := h / 2) (r₂ := h / 2) (d₁ := false) (d₂ := false)
      (by rw [duties_eq m c (.send δ (par h)), duties_send δ hh]; exact Finset.mem_singleton_self _)
      (by rw [duties_eq m (tow δ c) (.recv δ (par h)), duties_recv δ hh]; exact Finset.mem_singleton_self _)
      h 0 N (amount_slot δ (!par h) _) (amount_eq m c (.send δ (par h)) _ _) (amount_eq m (tow δ c) (.recv δ (par h)) _ _)
      O rfl (W := W)
      (by
        rw [payload_eq m c (.send δ (par h)), payload_send]; unfold srcHas
        iintro H; iexists fs; isplitr; · ipureintro; exact hfs
        iexact H)
      (by
        rw [payload_eq m (tow δ c) (.recv δ (par h)), payload_recv, frm_tow]
        refine sep_mono_left (srcHas_landed m (tow δ c) δ h _ _ ?_)
        rw [View.read_write_univ, frmN, frm_tow]; exact hfs)) $$ [HO Hd Hs HtS HtR]
  · isplitr; · iapply (inv_at m K c (.send δ (par h))); iexact HI
    isplitr; · iapply (inv_at m K (tow δ c) (.recv δ (par h))); iexact HI
    isplitl [Hs]; · iexact Hs
    isplitl [Hd]
    · isplitl [Hd]; · iexact Hd
      iexact HrB
    isplitl [HO]; · iexact HO
    isplitl [HtS]; · iexact HtS
    isplitr; · iexact HrS
    isplitl [HtR]; · iexact HtR
    iexact Hrr
  iintro ⟨Hc, HO⟩
  rw [wp_ret]; imodintro
  iapply Hk
  isplitl [HO]; · iexists W; iexact HO
  iexact Hc

/-- The two waits of a stream. -/
def recv1 (δ : Bool) (a : Memref sig .tc .hbm S512x8192 .f32) (p : Bool) : P (F := F) PUnit := do
  Prog.lift (.waitDma2 (semOf (sArr δ) p) (slot (buf δ) (!p)) a (wex _) (wex _))
  Prog.lift (.waitDma2 (semOf (rArr δ) (!p)) a (slot (buf δ) (!p)) (wex _) (wex _))

theorem recvs_eq (a b : Memref sig .tc .hbm S512x8192 .f32) (p : Bool) :
    (recvs a b p : P (F := F) PUnit) = (recv1 true a p >>= fun _ => recv1 false b p) := rfl

theorem credit_src (δ : Bool) (n : ℕ) : (srcM δ n).view.dmaCredit = N := by
  cases n with
  | zero => exact credit_xh δ
  | succ n => exact credit_slot δ _

/-- The waits of hop `h`: the source of message `h` back, and message `h + 1`. -/
theorem wp_recv1 (c : Dev nD) (δ : Bool) {h : ℕ} (hh : h < 7) (O : CellTallies nD τ sig ℕ) (hO : Above (2 * h + 2) O) (Kt : PUnit → sProp 𝕄) :
    iprop(Inv m K ∗ levAts L lv ∗ owesE c O
        ∗ cred (tallyAt (cell c (.send δ (par h))) 0 N) ∗ cred (tallyAt (cell c (.recv δ (par h))) h N)
        ∗ atPos ER (cell c (.send δ (par h))) (h / 2) ∅ 0 ∗ atPos ER (cell c (.recv δ (par h))) (h / 2) ∅ 0
        ∗ ((owesE c O ∗ srcHas m c δ h fullShare.left ∗ srcHas m c δ (h + 1) fullShare.left ∗ reached ER (cell (frm δ c) .bar) (h + 1)
            ∗ atPos ER (cell c (.send δ (par h))) (h / 2 + 1) ∅ 0 ∗ reached ER (cell c (.send δ (par h))) (h / 2 + 1)
            ∗ atPos ER (cell c (.recv δ (par h))) (h / 2 + 1) ∅ 0 ∗ reached ER (cell c (.recv δ (par h))) (h / 2 + 1)) -∗ Kt ⟨⟩))
      ⊢ WP c (recv1 δ (srcM δ h) (par h)) Kt := by
  unfold recv1 WP owesE
  simp only [Prog.lift, Prog.bind_op, Prog.bind_ret]
  iintro ⟨#HI, #Hlev, ⟨%W, HO⟩, HcS, HcR, HaS, HaR, Hk⟩
  iapply (Rounds.wp_wait_rest_token 𝒱₀ ER (Rd m) (c : Thread nD τ) none (κ := K (c, .send δ (par h)))
      (wpE_waitDma2_eq 𝒱₀ (c : Thread nD τ) none Set.univ) (Set.mem_univ _) 0 (O := O) (W := W) (R := h / 2) (m := 0) (T := ∅)
      (by rw [Nat.zero_add, expect_one m c (.send δ (par h)) (duties_send δ hh), credit_src]; rfl)) $$ [HcS HO HaS]
  · isplitr; · iapply (inv_at m K c (.send δ (par h))); iexact HI
    isplitl [HcS]; · rw [credit_src]; iexact HcS
    isplitl [HO]; · iexact HO
    isplitr
    · iapply (mayWait hO c (.dma (semOf (sArr δ) (par h))) (ι := 0) (by omega) (by rw [lv_cell c (.send δ (par h))]; exact Nat.zero_le _))
      iexact Hlev
    iexact HaS
  iintro ⟨HO, HaS, #HrS, HpS⟩
  ihave HpS := (Entails.of_eq ((rest_one m c (.send δ (par h)) (duties_send δ hh)).trans (payload_send m c δ h))) $$ HpS
  iapply (Rounds.wp_wait_rest_token 𝒱₀ ER (Rd m) (c : Thread nD τ) none (κ := K (c, .recv δ (par h)))
      (wpE_waitDma2_eq 𝒱₀ (c : Thread nD τ) none Set.univ) (Set.mem_univ _) h (O := O) (R := h / 2) (m := 0) (T := ∅)
      (by rw [Nat.zero_add, expect_one m c (.recv δ (par h)) (duties_recv δ hh), credit_slot]; rfl)) $$ [HcR HO HaR]
  · isplitr; · iapply (inv_at m K c (.recv δ (par h))); iexact HI
    isplitl [HcR]; · rw [credit_slot]; iexact HcR
    isplitl [HO]; · iexact HO
    isplitr
    · iapply (mayWait hO c (.dma (semOf (rArr δ) (!par h))) (ι := h) (by omega) (by rw [lv_cell c (.recv δ (par h))]; exact Nat.le_refl _))
      iexact Hlev
    iexact HaR
  iintro ⟨HO, HaR, #HrR, HpR⟩
  ihave HpR := (Entails.of_eq ((rest_one m c (.recv δ (par h)) (duties_recv δ hh)).trans (payload_recv m c δ h))) $$ HpR
  icases HpR with ⟨HpR, Hb⟩
  rw [wp_ret]; imodintro
  iapply Hk
  isplitl [HO]; · iexists _; iexact HO
  isplitl [HpS]; · iexact HpS
  isplitl [HpR]; · iexact HpR
  isplitl [Hb]; · iexact Hb
  isplitl [HaS]; · iexact HaS
  isplitr; · iexact HrS
  isplitl [HaR]; · iexact HaR
  iexact HrR

/-! ## The block products -/

/-- The device's columns of `w`, as staged. -/
def wstg (c : Dev nD) : (cc0_stg0_0 : Ref sig .tc).ty.Contents (Elt F) :=
  (win0_0.blk (0 : Fin 1)).view.read (Elt F) (m ((c : Thread nD τ).loc main_arg1))

/-- The result on device `c`: row `i` is row `i % 512` of the product of the half block that `i` lies in. -/
def outAt (c : Dev nD) : S8192x512.Idx → Elt F .f32 := fun i =>
  k0_pay1 (half m (decide ((i 0).val % 1024 < 512)) ⟨(i 0).val / 1024, Nat.div_lt_of_lt_mul (show (i 0).val < 1024 * 8 from (i 0).isLt)⟩) (wstg m c)
    (fun a => match a with
      | ⟨0, _⟩ => ⟨(i 0).val % 512, Nat.mod_lt _ (by decide)⟩
      | ⟨1, _⟩ => ⟨(i 1).val, (i 1).isLt⟩)

/-- Where the product of message `n` of stream `δ` is stored. -/
def blkOff (c : Dev nD) (δ : Bool) (n : ℕ) : Fin 2 → ℕ := ![1024 * (frmN δ n c).val + (if δ then 0 else 512), 0]

def InBlk (c : Dev nD) (r : ℕ) (i : S8192x512.Idx) : Prop :=
  blkOff c (cStr r) (cMsg r) 0 ≤ (i 0).val ∧ (i 0).val < blkOff c (cStr r) (cMsg r) 0 + 512

/-- The result's staging buffer with the first `r` products stored. -/
def outHas (c : Dev nD) (r : ℕ) : sProp 𝕄 :=
  iprop(∃ f : (cc0_stg1_0 : Ref sig .tc).ty.Contents (Elt F), ⌜∀ r' < r, ∀ i : S8192x512.Idx, InBlk c r' i → f i = outAt m c i⌝
    ∗ ((c : Thread nD τ).loc cc0_stg1_0) ↦{fullShare} f)

/-- An element's place within the 512 rows stored at `off`. -/
def within (off : Fin 2 → ℕ) (i : S8192x512.Idx) (h : ∀ a, off a ≤ (i a).val ∧ (i a).val < off a + S512x512.size a) : S512x512.Idx :=
  fun a => ⟨(i a).val - off a, by have := h a; omega⟩

omit [FloatOps F] in
/-- A store of 512 rows. -/
theorem write_rows {off : Fin 2 → ℕ} (hoff : ∀ a, off a + S512x512.size a ≤ S8192x512.size a)
    (f : (cc0_stg1_0 : Ref sig .tc).ty.Contents (Elt F)) (w : S512x512.Idx → Elt F .f32) (i : S8192x512.Idx) :
    ((oM).access (Rect.unit (s := S8192x512) off S512x512.size hoff) : View sig .tc _ _ _).write (Elt F) f w Finset.univ i
      = if h : ∀ a, off a ≤ (i a).val ∧ (i a).val < off a + S512x512.size a then w (within off i h) else f i := by
  by_cases h : ∀ a, off a ≤ (i a).val ∧ (i a).val < off a + S512x512.size a
  · rw [dif_pos h]
    have hi : i = ((oM).access (Rect.unit (s := S8192x512) off S512x512.size hoff) : View sig .tc _ _ _).emb
        (within off i h) := funext fun a => Fin.ext (by
      show (i a).val = off a + 1 * ((i a).val - off a)
      have := h a; omega)
    conv_lhs => rw [hi]
    rw [View.write_emb_of_mem _ _ (Finset.mem_univ _)]
    rfl
  · rw [dif_neg h]
    refine View.write_of_not_mem _ _ _ fun hm => h ?_
    obtain ⟨y, -, hy⟩ := Finset.mem_map.mp hm
    intro a
    have hv : (i a).val = off a + 1 * (y a).val := by rw [← hy]; rfl
    have hya : (y a).val < S512x512.size a := (y a).isLt
    omega

theorem pay_outAt (c : Dev nD) (r : ℕ) (i : S8192x512.Idx) {off : Fin 2 → ℕ} (hoff : off = blkOff c (cStr r) (cMsg r))
    (h : ∀ a, off a ≤ (i a).val ∧ (i a).val < off a + S512x512.size a) :
    k0_pay1 (half m (cStr r) (frmN (cStr r) (cMsg r) c)) (wstg m c) (within off i h) = outAt m c i := by
  subst hoff
  have h0 := h 0
  have hd : (frmN (cStr r) (cMsg r) c).val < 8 := (frmN (cStr r) (cMsg r) c).isLt
  simp only [blkOff, Matrix.cons_val_zero] at h0
  unfold outAt
  have e1 : decide ((i 0).val % 1024 < 512) = cStr r := by
    cases hc : cStr r <;> rw [hc] at h0 <;> simp at h0 ⊢ <;> omega
  have e2 : (⟨(i 0).val / 1024, Nat.div_lt_of_lt_mul (show (i 0).val < 1024 * 8 from (i 0).isLt)⟩ : Dev nD) = frmN (cStr r) (cMsg r) c := by
    apply Fin.ext
    show (i 0).val / 1024 = _
    cases hc : cStr r <;> rw [hc] at h0 hd <;> simp at h0 ⊢ <;> omega
  rw [e1, e2]
  congr 1
  funext a
  fin_cases a
  · apply Fin.ext
    show (i 0).val - (1024 * (frmN (cStr r) (cMsg r) c).val + (if cStr r then 0 else 512)) = (i 0).val % 512
    cases hc : cStr r <;> rw [hc] at h0 hd <;> simp at h0 ⊢ <;> omega
  · rfl

/-- One more product stored. -/
theorem outHas_step (c : Dev nD) (r : ℕ) {off : Fin 2 → ℕ} (hoff : ∀ a, off a + S512x512.size a ≤ S8192x512.size a)
    (ho : off = blkOff c (cStr r) (cMsg r)) (f : (cc0_stg1_0 : Ref sig .tc).ty.Contents (Elt F))
    (hf : ∀ r' < r, ∀ i : S8192x512.Idx, InBlk c r' i → f i = outAt m c i) (r' : ℕ) (hr' : r' < r + 1) (i : S8192x512.Idx) (hi : InBlk c r' i) :
    ((oM).access (Rect.unit (s := S8192x512) off S512x512.size hoff) : View sig .tc _ _ _).write (Elt F) f
      (k0_pay1 (half m (cStr r) (frmN (cStr r) (cMsg r) c)) (wstg m c)) Finset.univ i = outAt m c i := by
  rw [write_rows]
  split
  · exact pay_outAt m c r i ho ‹_›
  · rename_i hn
    refine hf r' ?_ i hi
    rcases Nat.lt_or_eq_of_le (Nat.le_of_lt_succ hr') with h | h
    · exact h
    · refine absurd (fun a => ?_) hn
      subst h ho
      fin_cases a
      · exact hi
      · exact ⟨Nat.zero_le _, (Nat.zero_add 512).symm ▸ (i 1).isLt⟩

omit [FloatOps F] in
/-- The first of an interval, and the rest. -/
theorem bigSep_Ico {a b : ℕ} (h : a < b) (Φ : ℕ → sProp 𝕄) :
    bigSep (Finset.Ico a b) Φ = iprop(Φ a ∗ bigSep (Finset.Ico (a + 1) b) Φ) := by
  rw [← Finset.insert_Ico_succ_left_eq_Ico h, bigSep_insert (by simp)]; rfl

/-- The local copy's cell before round `r`, and the stage. -/
def copySt (c : Dev nD) (r : ℕ) : sProp 𝕄 :=
  iprop(atPos ER (cell c .copy) r ∅ 0 ∗ reached ER (cell c .copy) r
    ∗ (bigSep (Finset.Ico r 16) fun r' => dutyTok ER (cell c .copy) r' false) ∗ ∃ v, stageHas (F := F) c v)

def wPts (c : Dev nD) : sProp 𝕄 := ((c : Thread nD τ).loc cc0_stg0_0) ↦{fullShare} wstg m c

omit [FloatOps F] in
theorem hz : (![0, 0] : Fin 2 → Nat) = fun _ => 0 := funext fun a => by fin_cases a <;> rfl
omit [FloatOps F] in
theorem read_w (f : (cc0_stg0_0 : Ref sig .tc).ty.Contents (Elt F)) :
    (wM).view.readAt (Elt F) (Rect.unit (s := S8192x512) ![0, 0] S8192x512.size inb_S8192x512_S8192x512_0_0).toLoadRect f = f :=
  Memref.readAt_unit_zero (Elt F) cc0_stg0_0 hz _ f
omit [FloatOps F] in
theorem read_s (f : (cc0_scratch0 : Ref sig .tc).ty.Contents (Elt F)) :
    (sM).view.readAt (Elt F) (Rect.unit (s := S512x8192) ![0, 0] S512x8192.size inb_S512x8192_S512x8192_0_0).toLoadRect f = f :=
  Memref.readAt_unit_zero (Elt F) cc0_scratch0 hz _ f

set_option maxHeartbeats 800000 in
/-- The product of the message of round `r`. -/
theorem wp_gemm (c : Dev nD) {r : ℕ} (hr : r < 16) {off : Fin 2 → ℕ} (hoff : ∀ a, off a + S512x512.size a ≤ S8192x512.size a)
    (ho : off = blkOff c (cStr r) (cMsg r)) (O : CellTallies nD τ sig ℕ) (hO : Above 0 O) (Kt : PUnit → sProp 𝕄) :
    iprop(Inv m K ∗ levAts L lv ∗ owesE c O ∗ copySt c r ∗ srcHas m c (cStr r) (cMsg r) fullShare.right ∗ wPts m c ∗ outHas m c r
        ∗ ((owesE c O ∗ copySt c (r + 1) ∗ srcHas m c (cStr r) (cMsg r) fullShare.right ∗ wPts m c ∗ outHas m c (r + 1)) -∗ Kt ⟨⟩))
      ⊢ WP c (gemm (srcM (cStr r) (cMsg r)) off hoff) Kt := by
  unfold gemm WP owesE copySt outHas wPts
  simp only [Prog.lift, Prog.bind_op, Prog.bind_ret]
  rw [bigSep_Ico hr]
  unfold srcHas stageHas
  iintro ⟨#HI, #Hlev, ⟨%W, HO⟩, ⟨Hat, #Hr, ⟨Ht, Hts⟩, ⟨%v, %f0, -, Hst⟩⟩, ⟨%fs, %hfs, Hs⟩, Hw, ⟨%g, %hg, Ho⟩, Hk⟩
  iapply (Rounds.wp_copy_pointsTo 𝒱₀ ER (Rd m) (c : Thread nD τ) none (κ := K (c, .copy)) (r := r) (d := false)
      (by rw [duties_eq m c .copy, duties_copy hr]; exact Finset.mem_singleton_self _) 0 N (show (sM).view.amount (.dma cc0_scratch5.sem) = N from rfl) (amount_eq m c .copy r false)
      (fs := fs) (fd := f0) (q := srcSh (cMsg r) fullShare.right)
      (by
        rw [payload_eq m c .copy]; unfold Cell.payload srcHas stageHas
        iintro ⟨H, H'⟩
        isplitl [H]
        · iexists _; isplitr
          swap
          · iexact H
          ipureintro; rw [View.read_write_univ]; exact hfs
        · iexists fs; isplitr; · ipureintro; exact hfs
          iexact H')) $$ [Hs Hst Ht]
  · isplitr; · iapply (inv_at m K c .copy); iexact HI
    isplitl [Hs]; · iexact Hs
    isplitl [Hst]; · iexact Hst
    isplitl [Ht]; · iexact Ht
    iexact Hr
  iintro Hc
  iapply (Rounds.wp_wait_rest_token 𝒱₀ ER (Rd m) (c : Thread nD τ) none (κ := K (c, .copy))
      (wpE_waitDma2_eq 𝒱₀ (c : Thread nD τ) none Set.univ) (Set.mem_univ _) 0 (O := O) (W := W) (R := r) (m := 0) (T := ∅)
      (by rw [Nat.zero_add, expect_one m c .copy (duties_copy hr)]; rfl)) $$ [Hc HO Hat]
  · isplitr; · iapply (inv_at m K c .copy); iexact HI
    isplitl [Hc]; · iexact Hc
    isplitl [HO]; · iexact HO
    isplitr
    · iapply (mayWait hO c (.dma cc0_scratch5.sem) (ι := 0) (by omega) (by rw [lv_cell c .copy]; exact Nat.le_refl _))
      iexact Hlev
    iexact Hat
  iintro ⟨HO, Hat, #Hr', Hpay⟩
  ihave Hp := (Entails.of_eq (rest_one m c .copy (duties_copy hr))) $$ Hpay
  unfold Cell.payload stageHas srcHas
  icases Hp with ⟨⟨%f1, %hf1, Hst⟩, Hs⟩
  iapply (wp_load 𝒱₀ (c : Thread nD τ) none Set.univ (m := sM) (by rw [show (sM).view.set = Finset.univ from View.set_whole _]; exact Finset.subset_univ _)) $$ Hst; iintro Hst
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S8192x512) off S512x512.size hoff) (Mk := Finset.univ) (Finset.subset_univ _)) $$ Ho; iintro Ho
  rw [read_w, read_s, wp_ret]; imodintro
  have hf1' : f1 = half m (cStr r) (frmN (cStr r) (cMsg r) c) := (View.read_whole _ _).symm.trans hf1
  iapply Hk
  isplitl [HO]; · iexists _; iexact HO
  isplitl [Hat Hts Hst]
  · isplitl [Hat]; · iexact Hat
    isplitr; · iexact Hr'
    isplitl [Hts]; · iexact Hts
    iexists _; iexists f1
    isplitr; · ipureintro; exact rfl
    iexact Hst
  isplitl [Hs]; · iexact Hs
  isplitl [Hw]; · iexact Hw
  iexists _
  isplitr
  swap
  · iexact Ho
  ipureintro
  rw [hf1']
  exact outHas_step m c r hoff ho g hg

end Cert.Ring

end
-- ==== Proof.Hops.lean ====
/-
# The hops in sequence

The state of a device between two hops, what one hop makes of it, and so what the seven hops make of the state at the
start: sixteen products stored, every round of every cell used up, and `x` back.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Cell → ℕ)

/-! ## The state between hops -/

/-- The send and the receive cell of stream `δ`, parity `p`, before hop `h`. -/
def cells (c : Dev nD) (δ p : Bool) (h : ℕ) : sProp 𝕄 :=
  iprop((atPos ER (cell c (.send δ p)) (cnt p h) ∅ 0 ∗ reached ER (cell c (.send δ p)) (cnt p h))
    ∗ (atPos ER (cell c (.recv δ p)) (cnt p h) ∅ 0 ∗ reached ER (cell c (.recv δ p)) (cnt p h)))

/-- The duties a device pays in hop `h`. -/
def toks (c : Dev nD) (h : ℕ) : sProp 𝕄 :=
  iprop((dutyTok ER (cell (lft c) .bar) h true ∗ dutyTok ER (cell (rgt c) .bar) h false)
    ∗ (dutyTok ER (cell c (.send true (par h))) (h / 2) false ∗ dutyTok ER (cell (rgt c) (.recv true (par h))) (h / 2) false)
    ∗ (dutyTok ER (cell c (.send false (par h))) (h / 2) false ∗ dutyTok ER (cell (lft c) (.recv false (par h))) (h / 2) false))

/-- The credit for what a device is owed in hop `h`. -/
def creds (c : Dev nD) (h : ℕ) : sProp 𝕄 :=
  iprop(cred (tallyAt (cell c .bar) h 2) ∗ cred (tallyAt (cell c (.recv true (par h))) h N) ∗ cred (tallyAt (cell c (.recv false (par h))) h N))

/-- The protocol's state of a device before hop `h`, but for the slots. -/
def st (c : Dev nD) (h : ℕ) : sProp 𝕄 :=
  iprop(owesE c (Ow c h) ∗ atPos ER (cell c .bar) h ∅ 0 ∗ reached ER (cell (lft c) .bar) h ∗ reached ER (cell (rgt c) .bar) h
    ∗ (cells c true (par h) h ∗ cells c true (!par h) h) ∗ (cells c false (par h) h ∗ cells c false (!par h) h)
    ∗ bigSep (Finset.Ico h 7) (toks c) ∗ bigSep (Finset.Ico h 7) (creds c))

/-- A stream's cells between the sends and the waits of hop `h`. -/
def midD (c : Dev nD) (δ : Bool) (h : ℕ) : sProp 𝕄 :=
  iprop(cred (tallyAt (cell c (.send δ (par h))) 0 N) ∗ cred (tallyAt (cell c (.recv δ (par h))) h N)
    ∗ atPos ER (cell c (.send δ (par h))) (h / 2) ∅ 0 ∗ atPos ER (cell c (.recv δ (par h))) (h / 2) ∅ 0 ∗ cells c δ (!par h) h)

/-- The state between the sends and the waits of hop `h`, but for what the device owes. -/
def mid (c : Dev nD) (h : ℕ) : sProp 𝕄 :=
  iprop(atPos ER (cell c .bar) (h + 1) ∅ 0 ∗ midD c true h ∗ midD c false h
    ∗ bigSep (Finset.Ico (h + 1) 7) (toks c) ∗ bigSep (Finset.Ico (h + 1) 7) (creds c))

omit [FloatOps F] in
theorem cells_turn (c : Dev nD) (δ : Bool) (h : ℕ) : (cells c δ (!par h) h : sProp 𝕄) = cells c δ (par (h + 1)) (h + 1) := by
  unfold cells; rw [par_succ, cnt_npar_succ]
omit [FloatOps F] in
theorem cells_used (c : Dev nD) (δ : Bool) (h : ℕ) :
    (iprop((atPos ER (cell c (.send δ (par h))) (h / 2 + 1) ∅ 0 ∗ reached ER (cell c (.send δ (par h))) (h / 2 + 1))
      ∗ (atPos ER (cell c (.recv δ (par h))) (h / 2 + 1) ∅ 0 ∗ reached ER (cell c (.recv δ (par h))) (h / 2 + 1))) : sProp 𝕄)
      = cells c δ (!par (h + 1)) (h + 1) := by
  unfold cells; rw [par_succ, Bool.not_not, cnt_par_succ]
omit [FloatOps F] in
theorem cells_par (c : Dev nD) (δ : Bool) (h : ℕ) : (cells c δ (par h) h : sProp 𝕄)
    = iprop((atPos ER (cell c (.send δ (par h))) (h / 2) ∅ 0 ∗ reached ER (cell c (.send δ (par h))) (h / 2))
      ∗ (atPos ER (cell c (.recv δ (par h))) (h / 2) ∅ 0 ∗ reached ER (cell c (.recv δ (par h))) (h / 2))) := by
  unfold cells; rw [cnt_par]

/-- The barrier and the two sends of hop `h`. -/
theorem wp_front (c : Dev nD) {h : ℕ} (hh : h < 7) (k : P (F := F) PUnit) (Kt : PUnit → sProp 𝕄) :
    iprop(Inv m K ∗ levAts L lv ∗ st c h ∗ (freeSlot c true (!par h) ∗ freeSlot c false (!par h))
        ∗ (srcHas m c true h fullShare.left ∗ srcHas m c false h fullShare.left)
        ∗ ((owesE c (Ow c (h + 1)) ∗ mid c h) -∗ WP c k Kt))
      ⊢ WP c (barrier c >>= fun _ => sends c (srcM true h) (srcM false h) (par h) >>= fun _ => k) Kt := by
  rw [sends_eq]
  unfold WP
  simp only [wp_bind]
  unfold st
  rw [bigSep_Ico hh, bigSep_Ico hh, cells_par, cells_par]
  unfold toks creds
  iintro ⟨#HI, #Hlev, ⟨HO, Hat, #HrL, #HrR, ⟨⟨⟨HaS1, #HrS1⟩, ⟨HaR1, #HrR1⟩⟩, Hn1⟩, ⟨⟨⟨HaS2, #HrS2⟩, ⟨HaR2, #HrR2⟩⟩, Hn2⟩,
    ⟨⟨⟨HtL, HtR⟩, ⟨HtS1, HtR1⟩, ⟨HtS2, HtR2⟩⟩, Htoks⟩, ⟨⟨HcB, HcR1, HcR2⟩, Hcreds⟩⟩, ⟨Hf1, Hf2⟩, ⟨Hs1, Hs2⟩, Hk⟩
  iapply (wp_barrier m K c hh)
  isplitr; · iexact HI
  isplitr; · iexact Hlev
  isplitl [HO]; · iexact HO
  isplitl [Hat]; · iexact Hat
  isplitr; · iexact HrL
  isplitr; · iexact HrR
  isplitl [HtL]; · iexact HtL
  isplitl [HtR]; · iexact HtR
  isplitl [HcB]; · iexact HcB
  isplitl [Hf1]
  · unfold give; isplitl [Hf1]; · iexact Hf1
    iexact HrR1
  isplitl [Hf2]
  · unfold give; isplitl [Hf2]; · iexact Hf2
    iexact HrR2
  iintro ⟨HO, Hat, #HrB, Hg1, Hg2⟩
  iapply (wp_send1 m K c true hh (Ow c (h + 1) + tR (lft c) false h))
  isplitr; · iexact HI
  isplitl [HO]; · iexact HO
  isplitl [Hg1]; · iexact Hg1
  isplitl [Hs1]; · iexact Hs1
  isplitl [HtS1]; · iexact HtS1
  isplitr; · iexact HrS1
  isplitl [HtR1]; · iexact HtR1
  isplitr; · iexact HrB
  iintro ⟨HO, HcS1⟩
  iapply (wp_send1 m K c false hh (Ow c (h + 1)))
  isplitr; · iexact HI
  isplitl [HO]; · iexact HO
  isplitl [Hg2]; · iexact Hg2
  isplitl [Hs2]; · iexact Hs2
  isplitl [HtS2]; · iexact HtS2
  isplitr; · iexact HrS2
  isplitl [HtR2]; · iexact HtR2
  isplitr; · iexact HrB
  iintro ⟨HO, HcS2⟩
  iapply Hk
  isplitl [HO]; · iexact HO
  unfold mid midD
  isplitl [Hat]; · iexact Hat
  isplitl [HcS1 HcR1 HaS1 HaR1 Hn1]
  · isplitl [HcS1]; · iexact HcS1
    isplitl [HcR1]; · iexact HcR1
    isplitl [HaS1]; · iexact HaS1
    isplitl [HaR1]; · iexact HaR1
    iexact Hn1
  isplitl [HcS2 HcR2 HaS2 HaR2 Hn2]
  · isplitl [HcS2]; · iexact HcS2
    isplitl [HcR2]; · iexact HcR2
    isplitl [HaS2]; · iexact HaS2
    isplitl [HaR2]; · iexact HaR2
    iexact Hn2
  isplitl [Htoks]; · iexact Htoks
  iexact Hcreds

/-- The four waits of hop `h`. -/
theorem wp_back (c : Dev nD) {h : ℕ} (hh : h < 7) (Kt : PUnit → sProp 𝕄) :
    iprop(Inv m K ∗ levAts L lv ∗ owesE c (Ow c (h + 1)) ∗ mid c h
        ∗ ((st c (h + 1) ∗ (srcHas m c true h fullShare.left ∗ srcHas m c false h fullShare.left)
            ∗ (srcHas m c true (h + 1) fullShare.left ∗ srcHas m c false (h + 1) fullShare.left)) -∗ Kt ⟨⟩))
      ⊢ WP c (recvs (srcM true h) (srcM false h) (par h)) Kt := by
  rw [recvs_eq]
  unfold WP
  simp only [wp_bind]
  unfold mid midD
  iintro ⟨#HI, #Hlev, HO, ⟨Hat, ⟨HcS1, HcR1, HaS1, HaR1, Hn1⟩, ⟨HcS2, HcR2, HaS2, HaR2, Hn2⟩, Htoks, Hcreds⟩, Hk⟩
  iapply (wp_recv1 m K c true hh (Ow c (h + 1)) ((Above.Ow c (h + 1)).mono (by omega)))
  isplitr; · iexact HI
  isplitr; · iexact Hlev
  isplitl [HO]; · iexact HO
  isplitl [HcS1]; · iexact HcS1
  isplitl [HcR1]; · iexact HcR1
  isplitl [HaS1]; · iexact HaS1
  isplitl [HaR1]; · iexact HaR1
  iintro ⟨HO, Ho1, Hs1, #Hb1, HaS1, #HrS1, HaR1, #HrR1⟩
  iapply (wp_recv1 m K c false hh (Ow c (h + 1)) ((Above.Ow c (h + 1)).mono (by omega)))
  isplitr; · iexact HI
  isplitr; · iexact Hlev
  isplitl [HO]; · iexact HO
  isplitl [HcS2]; · iexact HcS2
  isplitl [HcR2]; · iexact HcR2
  isplitl [HaS2]; · iexact HaS2
  isplitl [HaR2]; · iexact HaR2
  iintro ⟨HO, Ho2, Hs2, #Hb2, HaS2, #HrS2, HaR2, #HrR2⟩
  iapply Hk
  unfold st
  isplitl [HO Hat HaS1 HaR1 HaS2 HaR2 Hn1 Hn2 Htoks Hcreds]
  · isplitl [HO]; · iexact HO
    isplitl [Hat]; · iexact Hat
    isplitr; · iexact Hb1
    isplitr; · iexact Hb2
    isplitl [HaS1 HaR1 Hn1]
    · isplitl [Hn1]; · rw [← cells_turn]; iexact Hn1
      rw [← cells_used]
      isplitl [HaS1]
      · isplitl [HaS1]; · iexact HaS1
        iexact HrS1
      isplitl [HaR1]; · iexact HaR1
      iexact HrR1
    isplitl [HaS2 HaR2 Hn2]
    · isplitl [Hn2]; · rw [← cells_turn]; iexact Hn2
      rw [← cells_used]
      isplitl [HaS2]
      · isplitl [HaS2]; · iexact HaS2
        iexact HrS2
      isplitl [HaR2]; · iexact HaR2
      iexact HrR2
    isplitl [Htoks]; · iexact Htoks
    iexact Hcreds
  isplitl [Ho1 Ho2]
  · isplitl [Ho1]; · iexact Ho1
    iexact Ho2
  isplitl [Hs1]; · iexact Hs1
  iexact Hs2

/-- A product, the round named by its stream and message. -/
theorem wp_gemm_at (c : Dev nD) (δ : Bool) (n : ℕ) (hn : n < 8) {src : Memref sig .tc .hbm S512x8192 .f32} (hs : src = srcM δ n)
    {off : Fin 2 → ℕ} (hoff : ∀ a, off a + S512x512.size a ≤ S8192x512.size a) (ho : off = blkOff c δ n)
    {r : ℕ} (hr : r = 2 * n + (if δ then 0 else 1)) (O : CellTallies nD τ sig ℕ) (hO : Above 0 O) (Kt : PUnit → sProp 𝕄) :
    iprop(Inv m K ∗ levAts L lv ∗ owesE c O ∗ copySt c r ∗ srcHas m c δ n fullShare.right ∗ wPts m c ∗ outHas m c r
        ∗ ((owesE c O ∗ copySt c (r + 1) ∗ srcHas m c δ n fullShare.right ∗ wPts m c ∗ outHas m c (r + 1)) -∗ Kt ⟨⟩))
      ⊢ WP c (gemm src off hoff) Kt := by
  have h1 : δ = cStr r := by subst hr; cases δ <;> simp [cStr] <;> omega
  have h2 : n = cMsg r := by subst hr; cases δ <;> simp [cMsg] <;> omega
  have h3 : r < 16 := by subst hr; cases δ <;> simp <;> omega
  subst h1 h2 hs
  exact wp_gemm m K c h3 hoff ho O hO Kt

theorem off1_eq (c : Dev nD) : k0_off1 c = blkOff c true 0 := by rw [k0_off1_eq]; rfl
theorem off2_eq (c : Dev nD) : k0_off2 c = blkOff c false 0 := by rw [k0_off2_eq]; rfl
theorem off3_eq (c : Dev nD) (r : Fin 7) : k0_off3 c (BitVec.ofNat 32 r.val) = blkOff c true (r.val + 1) := by
  rw [k0_off3_eq]; unfold blkOff; rw [frmN_val _ _ _ (by omega)]
  have : (c.val + 15 - r.val) % 8 = (c.val + (8 - (r.val + 1))) % 8 := by have := r.isLt; omega
  simp only [this, if_true, Nat.add_zero]
theorem off4_eq (c : Dev nD) (r : Fin 7) : k0_off4 c (BitVec.ofNat 32 r.val) = blkOff c false (r.val + 1) := by
  rw [k0_off4_eq]; unfold blkOff; rw [frmN_val _ _ _ (by omega)]
  simp only [Nat.add_assoc, Bool.false_eq_true, if_false]

/-- The two products of hop `h`. -/
theorem wp_prods (c : Dev nD) {h : ℕ} (hh : h < 7) (Kt : PUnit → sProp 𝕄) :
    iprop(Inv m K ∗ levAts L lv ∗ owesE c (Ow c (h + 1)) ∗ copySt c (2 * (h + 1))
        ∗ (srcHas m c true (h + 1) fullShare.left ∗ srcHas m c false (h + 1) fullShare.left) ∗ wPts m c ∗ outHas m c (2 * (h + 1))
        ∗ ((owesE c (Ow c (h + 1)) ∗ copySt c (2 * (h + 2)) ∗ (srcHas m c true (h + 1) fullShare.left ∗ srcHas m c false (h + 1) fullShare.left)
            ∗ wPts m c ∗ outHas m c (2 * (h + 2))) -∗ Kt ⟨⟩))
      ⊢ WP c (prods c ⟨h, hh⟩ (par h)) Kt := by
  unfold prods WP
  simp only [wp_bind]
  iintro ⟨#HI, #Hlev, HO, Hc, ⟨Hs1, Hs2⟩, Hw, Ho, Hk⟩
  iapply (wp_gemm_at m K c true (h + 1) (by omega) (by rw [← par_succ]) (k0_off3_inb c ⟨h, hh⟩) (off3_eq c ⟨h, hh⟩) (r := 2 * (h + 1)) (by simp)
    (Ow c (h + 1)) ((Above.Ow c (h + 1)).mono (Nat.zero_le _)))
  isplitr; · iexact HI
  isplitr; · iexact Hlev
  isplitl [HO]; · iexact HO
  isplitl [Hc]; · iexact Hc
  isplitl [Hs1]; · iexact Hs1
  isplitl [Hw]; · iexact Hw
  isplitl [Ho]; · iexact Ho
  iintro ⟨HO, Hc, Hs1, Hw, Ho⟩
  iapply (wp_gemm_at m K c false (h + 1) (by omega) (by rw [← par_succ]) (k0_off4_inb c ⟨h, hh⟩) (off4_eq c ⟨h, hh⟩) (r := 2 * (h + 1) + 1) (by simp)
    (Ow c (h + 1)) ((Above.Ow c (h + 1)).mono (Nat.zero_le _)))
  isplitr; · iexact HI
  isplitr; · iexact Hlev
  isplitl [HO]; · iexact HO
  isplitl [Hc]; · iexact Hc
  isplitl [Hs2]; · iexact Hs2
  isplitl [Hw]; · iexact Hw
  isplitl [Ho]; · iexact Ho
  iintro ⟨HO, Hc, Hs2, Hw, Ho⟩
  iapply Hk
  isplitl [HO]; · iexact HO
  isplitl [Hc]; · iexact Hc
  isplitl [Hs1 Hs2]
  · isplitl [Hs1]; · iexact Hs1
    iexact Hs2
  isplitl [Hw]; · iexact Hw
  iexact Ho

/-- The state before hop `h`, `h ≥ 1`: the message to be passed on in one slot of each stream, the other free; `2 (h + 1)`
    products stored. -/
def hopSt (c : Dev nD) (h : ℕ) : sProp 𝕄 :=
  iprop(st c h ∗ (freeSlot c true (!par h) ∗ freeSlot c false (!par h))
    ∗ (srcHas m c true h fullShare.left ∗ srcHas m c false h fullShare.left)
    ∗ copySt c (2 * (h + 1)) ∗ wPts m c ∗ outHas m c (2 * (h + 1)))

/-- A later hop. -/
theorem wp_hop (c : Dev nD) (n : ℕ) (hh : n + 1 < 7) (Kt : PUnit → sProp 𝕄) :
    iprop(Inv m K ∗ levAts L lv ∗ hopSt m c (n + 1) ∗ (hopSt m c (n + 2) -∗ Kt ⟨⟩)) ⊢ WP c (hopS c ⟨n + 1, hh⟩ (par (n + 1))) Kt := by
  unfold hopS hopSt
  iintro ⟨#HI, #Hlev, ⟨Hst, Hf, Hs, Hc, Hw, Ho⟩, Hk⟩
  iapply (wp_front m K c hh)
  isplitr; · iexact HI
  isplitr; · iexact Hlev
  isplitl [Hst]; · iexact Hst
  isplitl [Hf]; · iexact Hf
  isplitl [Hs]; · iexact Hs
  iintro ⟨HO, Hmid⟩
  unfold WP
  simp only [wp_bind]
  iapply (wp_back m K c hh)
  isplitr; · iexact HI
  isplitr; · iexact Hlev
  isplitl [HO]; · iexact HO
  isplitl [Hmid]; · iexact Hmid
  iintro ⟨Hst, ⟨Hs1, Hs2⟩, Hn⟩
  unfold st
  icases Hst with ⟨HO, Hst⟩
  iapply (wp_prods m K c hh)
  isplitr; · iexact HI
  isplitr; · iexact Hlev
  isplitl [HO]; · iexact HO
  isplitl [Hc]; · iexact Hc
  isplitl [Hn]; · iexact Hn
  isplitl [Hw]; · iexact Hw
  isplitl [Ho]; · iexact Ho
  iintro ⟨HO, Hc, Hn, Hw, Ho⟩
  iapply Hk
  isplitl [HO Hst]
  · isplitl [HO]; · iexact HO
    iexact Hst
  isplitl [Hs1 Hs2]
  · rw [par_succ (n + 1), Bool.not_not]
    isplitl [Hs1]
    · iapply (srcHas_free m c true n _); iexact Hs1
    · iapply (srcHas_free m c false n _); iexact Hs2
  isplitl [Hn]; · iexact Hn
  isplitl [Hc]; · iexact Hc
  isplitl [Hw]; · iexact Hw
  iexact Ho

/-- `x`, in halves and shares. -/
def xAll (c : Dev nD) : sProp 𝕄 :=
  iprop((srcHas m c true 0 fullShare.left ∗ srcHas m c false 0 fullShare.left)
    ∗ (srcHas m c true 0 fullShare.right ∗ srcHas m c false 0 fullShare.right))

/-- The first hop. -/
theorem wp_hop0 (c : Dev nD) (Kt : PUnit → sProp 𝕄) :
    iprop(Inv m K ∗ levAts L lv ∗ (st c 0 ∗ (freeSlot c true true ∗ freeSlot c false true) ∗ (freeSlot c true false ∗ freeSlot c false false)
          ∗ xAll m c ∗ copySt c 0 ∗ wPts m c ∗ outHas m c 0)
        ∗ ((hopSt m c 1 ∗ xAll m c) -∗ Kt ⟨⟩)) ⊢ WP c (hop0 c) Kt := by
  unfold hop0 hopSt xAll
  iintro ⟨#HI, #Hlev, ⟨Hst, Hf, Hg, ⟨Hs, ⟨Hr1, Hr2⟩⟩, Hc, Hw, Ho⟩, Hk⟩
  iapply (wp_front m K c (h := 0) (by omega))
  isplitr; · iexact HI
  isplitr; · iexact Hlev
  isplitl [Hst]; · iexact Hst
  isplitl [Hf]; · iexact Hf
  isplitl [Hs]; · iexact Hs
  iintro ⟨HO, Hmid⟩
  unfold WP
  simp only [wp_bind]
  iapply (wp_gemm_at m K c true 0 (by omega) rfl (k0_off1_inb c) (off1_eq c) (r := 0) rfl (Ow c (0 + 1)) ((Above.Ow c (0 + 1)).mono (Nat.zero_le _)))
  isplitr; · iexact HI
  isplitr; · iexact Hlev
  isplitl [HO]; · iexact HO
  isplitl [Hc]; · iexact Hc
  isplitl [Hr1]; · iexact Hr1
  isplitl [Hw]; · iexact Hw
  isplitl [Ho]; · iexact Ho
  iintro ⟨HO, Hc, Hr1, Hw, Ho⟩
  iapply (wp_gemm_at m K c false 0 (by omega) rfl (k0_off2_inb c) (off2_eq c) (r := 1) rfl (Ow c (0 + 1)) ((Above.Ow c (0 + 1)).mono (Nat.zero_le _)))
  isplitr; · iexact HI
  isplitr; · iexact Hlev
  isplitl [HO]; · iexact HO
  isplitl [Hc]; · iexact Hc
  isplitl [Hr2]; · iexact Hr2
  isplitl [Hw]; · iexact Hw
  isplitl [Ho]; · iexact Ho
  iintro ⟨HO, Hc, Hr2, Hw, Ho⟩
  iapply (wp_back m K c (h := 0) (by omega))
  isplitr; · iexact HI
  isplitr; · iexact Hlev
  isplitl [HO]; · iexact HO
  isplitl [Hmid]; · iexact Hmid
  iintro ⟨Hst, Hs, Hn⟩
  unfold st
  icases Hst with ⟨HO, Hst⟩
  iapply (wp_prods m K c (h := 0) (by omega))
  isplitr; · iexact HI
  isplitr; · iexact Hlev
  isplitl [HO]; · iexact HO
  isplitl [Hc]; · iexact Hc
  isplitl [Hn]; · iexact Hn
  isplitl [Hw]; · iexact Hw
  isplitl [Ho]; · iexact Ho
  iintro ⟨HO, Hc, Hn, Hw, Ho⟩
  iapply Hk
  isplitr [Hs Hr1 Hr2]
  · isplitl [HO Hst]
    · isplitl [HO]; · iexact HO
      iexact Hst
    isplitl [Hg]; · iexact Hg
    isplitl [Hn]; · iexact Hn
    isplitl [Hc]; · iexact Hc
    isplitl [Hw]; · iexact Hw
    iexact Ho
  isplitl [Hs]; · iexact Hs
  isplitl [Hr1]; · iexact Hr1
  iexact Hr2

/-- The hops from `n + 1` on. -/
def hopsFrom (c : Dev nD) : (k n : ℕ) → n + 1 + k = 7 → P (F := F) PUnit
  | 0, _, _ => .ret ⟨⟩
  | k + 1, n, e => hopS c ⟨n + 1, by omega⟩ (par (n + 1)) >>= fun _ => hopsFrom c k (n + 1) (by omega)

theorem wp_hopsFrom (c : Dev nD) (k n : ℕ) (e : n + 1 + k = 7) (Kt : PUnit → sProp 𝕄) :
    iprop(Inv m K ∗ levAts L lv ∗ hopSt m c (n + 1) ∗ (hopSt m c 7 -∗ Kt ⟨⟩)) ⊢ WP c (hopsFrom c k n e) Kt := by
  induction k generalizing n with
  | zero =>
    have e' : n + 1 = 7 := e
    rw [e']
    unfold hopsFrom WP
    iintro ⟨-, -, H, Hk⟩
    rw [wp_ret]; imodintro
    iapply Hk; iexact H
  | succ k ih =>
    unfold hopsFrom WP
    simp only [wp_bind]
    iintro ⟨#HI, #Hlev, H, Hk⟩
    iapply (wp_hop m K c n _)
    isplitr; · iexact HI
    isplitr; · iexact Hlev
    isplitl [H]; · iexact H
    iintro H
    iapply (ih (n + 1) _)
    isplitr; · iexact HI
    isplitr; · iexact Hlev
    isplitl [H]; · iexact H
    iexact Hk

theorem hops_eq : (hops : P (F := F) PUnit)
    = (Prog.lift .deviceId >>= fun d => hop0 d >>= fun _ => hopsFrom d 6 0 rfl) := by
  have hp : ∀ p : P (F := F) PUnit, (p >>= fun _ => Prog.ret ⟨⟩) = p := fun p => bind_pure p
  have p1 : par (0 + 1) = true := rfl
  have p2 : par (0 + 1 + 1) = false := rfl
  have p3 : par (0 + 1 + 1 + 1) = true := rfl
  have p4 : par (0 + 1 + 1 + 1 + 1) = false := rfl
  have p5 : par (0 + 1 + 1 + 1 + 1 + 1) = true := rfl
  have p6 : par (0 + 1 + 1 + 1 + 1 + 1 + 1) = false := rfl
  simp only [hopsFrom, hp, p1, p2, p3, p4, p5, p6]
  rfl

/-- The whole body. -/
theorem wp_hops (c : Dev nD) (Kt : PUnit → sProp 𝕄) :
    iprop(Inv m K ∗ levAts L lv ∗ (st c 0 ∗ (freeSlot c true true ∗ freeSlot c false true) ∗ (freeSlot c true false ∗ freeSlot c false false)
          ∗ xAll m c ∗ copySt c 0 ∗ wPts m c ∗ outHas m c 0)
        ∗ ((hopSt m c 7 ∗ xAll m c) -∗ Kt ⟨⟩)) ⊢ WP c hops Kt := by
  rw [hops_eq]
  unfold WP
  simp only [Prog.lift, Prog.bind_op, Prog.bind_ret, wp_deviceId, wp_bind]
  iintro ⟨#HI, #Hlev, H, Hk⟩
  iapply (wp_hop0 m K c)
  isplitr; · iexact HI
  isplitr; · iexact Hlev
  isplitl [H]; · iexact H
  iintro ⟨H, Hx⟩
  iapply (wp_hopsFrom m K c 6 0 rfl)
  isplitr; · iexact HI
  isplitr; · iexact Hlev
  isplitl [H]; · iexact H
  iintro H
  iapply Hk
  isplitl [H]; · iexact H
  iexact Hx

end Cert.Ring

end
-- ==== Proof.Body.lean ====
/-
# The body of a device, from what the launch gives it to what it hands back

Around the hops: a device's `x`, which comes whole, is held in halves of its two block halves; its landing buffers are
four slots; and once the hops are over every cell has run out of rounds, so it is closed and its counter is at zero.
-/
module

public import proofs.«01_k».proof.Proof.Hops

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Cell → ℕ)

/-! ## The device's own rows of `x` -/

def xPts (c : Dev nD) : sProp 𝕄 := ((c : Thread nD τ).loc main_arg0) ↦{fullShare} m ((c : Thread nD τ).loc main_arg0)

omit [FloatOps F] in
theorem mem_hi (i : S1024x8192.Idx) : i ∈ (xHi.view.set : Finset S1024x8192.Idx) ↔ (i 0).val < 512 := by
  rw [show (xHi.view.set : Finset S1024x8192.Idx) = _ from View.set_slice_whole main_arg0 _]
  refine Rect.mem_set_unit.trans ⟨fun h => by have := (h 0).2; simpa using this, fun h a => ?_⟩
  have := (i a).isLt
  fin_cases a
  · exact ⟨Nat.zero_le _, by simpa using h⟩
  · exact ⟨Nat.zero_le _, by simpa using this⟩
omit [FloatOps F] in
theorem mem_lo (i : S1024x8192.Idx) : i ∈ (xLo.view.set : Finset S1024x8192.Idx) ↔ 512 ≤ (i 0).val := by
  rw [show (xLo.view.set : Finset S1024x8192.Idx) = _ from View.set_slice_whole main_arg0 _]
  refine Rect.mem_set_unit.trans ⟨fun h => by have := (h 0).1; simpa using this, fun h a => ?_⟩
  have := (i a).isLt
  fin_cases a
  · exact ⟨by simpa using h, by simpa using this⟩
  · exact ⟨Nat.zero_le _, by simpa using this⟩
omit [FloatOps F] in
theorem hi_lo_disjoint : Disjoint (xHi.view.set : Finset S1024x8192.Idx) xLo.view.set :=
  Finset.disjoint_left.mpr fun i h h' => by rw [mem_hi] at h; rw [mem_lo] at h'; omega
omit [FloatOps F] in
theorem hi_lo_univ : (xHi.view.set : Finset S1024x8192.Idx) ∪ xLo.view.set = Finset.univ :=
  Finset.eq_univ_of_forall fun i => by rw [Finset.mem_union, mem_hi, mem_lo]; omega

omit [FloatOps F] in
/-- What is read the same through a view is the same under it. -/
theorem agree_of_read {s : Shape} {e : EltTy} {sp : Space} (v : View sig .tc sp s e) {f g : v.ty.Contents (Elt F)}
    (h : v.read (Elt F) f = v.read (Elt F) g) : ∀ i ∈ v.set, f i = g i := fun i hi => by
  obtain ⟨y, -, rfl⟩ := Finset.mem_map.mp hi
  have := congrFun h y
  rw [View.read_apply, View.read_apply] at this
  exact (Equiv.cast (congrArg (Elt F) v.elt_eq)).injective this

omit [FloatOps F] in
theorem x_halves (c : Dev nD) (sh : PosShare TreeShare) :
    ((((c : Thread nD τ).loc main_arg0) ↦[Finset.univ]{sh} m ((c : Thread nD τ).loc main_arg0)) : sProp 𝕄)
      ⊢ iprop(srcHas m c true 0 sh ∗ srcHas m c false 0 sh) := by
  unfold srcHas
  iintro H
  ihave H := (Entails.of_eq (congrArg (fun S : Finset S1024x8192.Idx => ((((c : Thread nD τ).loc main_arg0) ↦[S]{sh} m ((c : Thread nD τ).loc main_arg0)) : sProp 𝕄)) hi_lo_univ.symm)) $$ H
  ihave H := ((pointsTo_union hi_lo_disjoint).1) $$ H
  icases H with ⟨H1, H2⟩
  isplitl [H1]
  · iexists _; isplitr
    swap; · iexact H1
    ipureintro; rfl
  · iexists _; isplitr
    swap; · iexact H2
    ipureintro; rfl

omit [FloatOps F] in
theorem halves_x (c : Dev nD) (sh : PosShare TreeShare) :
    iprop(srcHas m c true 0 sh ∗ srcHas m c false 0 sh)
      ⊢ ((((c : Thread nD τ).loc main_arg0) ↦[Finset.univ]{sh} m ((c : Thread nD τ).loc main_arg0)) : sProp 𝕄) := by
  unfold srcHas
  iintro ⟨⟨%f, %hf, H1⟩, ⟨%g, %hg, H2⟩⟩
  ihave H1 := (Entails.of_eq (pointsTo_congr (agree_of_read xHi.view hf))) $$ H1
  ihave H2 := (Entails.of_eq (pointsTo_congr (agree_of_read xLo.view hg))) $$ H2
  iapply (Entails.of_eq (congrArg (fun S : Finset S1024x8192.Idx => ((((c : Thread nD τ).loc main_arg0) ↦[S]{sh} m ((c : Thread nD τ).loc main_arg0)) : sProp 𝕄)) hi_lo_univ))
  iapply ((pointsTo_union hi_lo_disjoint).2)
  isplitl [H1]; · iexact H1
  iexact H2

omit [FloatOps F] in
theorem xAll_intro (c : Dev nD) : xPts m c ⊢ xAll m c := by
  unfold xPts xAll
  iintro H
  ihave H := (pointsTo_share (PosShare.mem_left_op_right fullShare)).1 $$ H
  icases H with ⟨H1, H2⟩
  isplitl [H1]
  · iapply (x_halves m c _); iexact H1
  · iapply (x_halves m c _); iexact H2
omit [FloatOps F] in
theorem xAll_elim (c : Dev nD) : xAll m c ⊢ xPts m c := by
  unfold xPts xAll
  iintro ⟨H1, H2⟩
  iapply (pointsTo_share (PosShare.mem_left_op_right fullShare)).2
  isplitl [H1]
  · iapply (halves_x m c _); iexact H1
  · iapply (halves_x m c _); iexact H2

/-! ## The landing buffers -/

theorem inb_slot (p : Bool) : ∀ a, (![p.toNat, 0, 0] : Fin 3 → ℕ) a + S1x512x8192.size a ≤ S2x512x8192.size a := by cases p <;> decide
/-- A slot's elements. -/
abbrev slotSet (p : Bool) : Finset S2x512x8192.Idx := (Rect.unit (s := S2x512x8192) ![p.toNat, 0, 0] S1x512x8192.size (inb_slot p)).set
theorem slots_disjoint : Disjoint (slotSet true) (slotSet false) := Rect.unit_disjoint 0 (Or.inr (by decide))

omit [FloatOps F] in
theorem free_cw_true (c : Dev nD) (f : Buf (Elt F) ((c : Thread nD τ).loc main_v1_1)) :
    ((((c : Thread nD τ).loc main_v1_1) ↦[slotSet true]{fullShare} f) : sProp 𝕄) ⊢ freeSlot c true true := by
  have e : ((slot cwM true).view.set : Finset S2x512x8192.Idx) = slotSet true :=
    (View.set_reshape _ _).trans (View.set_slice_whole main_v1_1 _)
  rw [← e]; unfold freeSlot
  iintro H; iexists f; iexact H
omit [FloatOps F] in
theorem free_cw_false (c : Dev nD) (f : Buf (Elt F) ((c : Thread nD τ).loc main_v1_1)) :
    ((((c : Thread nD τ).loc main_v1_1) ↦[slotSet false]{fullShare} f) : sProp 𝕄) ⊢ freeSlot c true false := by
  have e : ((slot cwM false).view.set : Finset S2x512x8192.Idx) = slotSet false :=
    (View.set_reshape _ _).trans (View.set_slice_whole main_v1_1 _)
  rw [← e]; unfold freeSlot
  iintro H; iexists f; iexact H
omit [FloatOps F] in
/-- A whole landing buffer is two slots. -/
theorem slots_cw (c : Dev nD) (f : Buf (Elt F) ((c : Thread nD τ).loc main_v1_1)) :
    ((((c : Thread nD τ).loc main_v1_1) ↦[Finset.univ]{fullShare} f) : sProp 𝕄) ⊢ iprop(freeSlot c true true ∗ freeSlot c true false) := by
  iintro H
  ihave H := ((pointsTo_split_subset (Finset.subset_univ (slotSet true ∪ slotSet false))).1) $$ H
  icases H with ⟨H, -⟩
  ihave H := ((pointsTo_union slots_disjoint).1) $$ H
  icases H with ⟨H1, H2⟩
  isplitl [H1]
  · iapply (free_cw_true c f); iexact H1
  · iapply (free_cw_false c f); iexact H2
omit [FloatOps F] in
theorem free_cc_true (c : Dev nD) (f : Buf (Elt F) ((c : Thread nD τ).loc main_v1_2)) :
    ((((c : Thread nD τ).loc main_v1_2) ↦[slotSet true]{fullShare} f) : sProp 𝕄) ⊢ freeSlot c false true := by
  have e : ((slot ccM true).view.set : Finset S2x512x8192.Idx) = slotSet true :=
    (View.set_reshape _ _).trans (View.set_slice_whole main_v1_2 _)
  rw [← e]; unfold freeSlot
  iintro H; iexists f; iexact H
omit [FloatOps F] in
theorem free_cc_false (c : Dev nD) (f : Buf (Elt F) ((c : Thread nD τ).loc main_v1_2)) :
    ((((c : Thread nD τ).loc main_v1_2) ↦[slotSet false]{fullShare} f) : sProp 𝕄) ⊢ freeSlot c false false := by
  have e : ((slot ccM false).view.set : Finset S2x512x8192.Idx) = slotSet false :=
    (View.set_reshape _ _).trans (View.set_slice_whole main_v1_2 _)
  rw [← e]; unfold freeSlot
  iintro H; iexists f; iexact H
omit [FloatOps F] in
theorem slots_cc (c : Dev nD) (f : Buf (Elt F) ((c : Thread nD τ).loc main_v1_2)) :
    ((((c : Thread nD τ).loc main_v1_2) ↦[Finset.univ]{fullShare} f) : sProp 𝕄) ⊢ iprop(freeSlot c false true ∗ freeSlot c false false) := by
  iintro H
  ihave H := ((pointsTo_split_subset (Finset.subset_univ (slotSet true ∪ slotSet false))).1) $$ H
  icases H with ⟨H, -⟩
  ihave H := ((pointsTo_union slots_disjoint).1) $$ H
  icases H with ⟨H1, H2⟩
  isplitl [H1]
  · iapply (free_cc_true c f); iexact H1
  · iapply (free_cc_false c f); iexact H2

/-! ## The cells: positions, and their end -/

omit [FloatOps F] in
theorem bigSep_cell (Φ : Cell → sProp 𝕄) : bigSep Finset.univ Φ
    = iprop(Φ .bar ∗ Φ (.send true false) ∗ Φ (.send true true) ∗ Φ (.recv true false) ∗ Φ (.recv true true) ∗ Φ (.send false false)
      ∗ Φ (.send false true) ∗ Φ (.recv false false) ∗ Φ (.recv false true) ∗ Φ .copy) :=
  (bigSep_univ_eq_bigSepL Cell.list (by decide) Cell.nodup_list Φ).trans rfl

/-- A device's positions in the rounds of its cells. -/
def pos (c : Dev nD) (R : Cell → ℕ) : sProp 𝕄 := bigSep Finset.univ fun k : Cell => atPos ER (cell c k) (R k) ∅ 0
def sems0 (c : Dev nD) : sProp 𝕄 := bigSep Finset.univ fun k : Cell => semVal (cell c k) 0

/-- How many rounds a cell has. -/
def Cell.rounds : Cell → ℕ
  | .bar => 7
  | .send _ p => cnt p 7
  | .recv _ p => cnt p 7
  | .copy => 16
omit [FloatOps F] in
theorem duties_later (c : Dev nD) (k : Cell) (r : ℕ) (hr : k.rounds ≤ r) : (Rd m).duties (cell c k) r = ∅ := by
  rw [duties_eq]
  rcases k with _ | ⟨_, _ | _⟩ | ⟨_, _ | _⟩ | _ <;> (try simp only [Cell.rounds, cnt] at hr) <;>
    exact if_neg (by (try simp only [hopOf, Bool.toNat_true, Bool.toNat_false]); omega)

omit [FloatOps F] in
theorem close (c : Dev nD) : iprop(Inv m K ∗ pos c Cell.rounds) ⊢ |={Set.univ}=> (sems0 c : sProp 𝕄) := by
  unfold pos sems0
  refine (bigSep_with_persistent (R := Inv m K) fun k _ => ?_).trans (bigSep_fupd _ _)
  iintro ⟨#HI, H⟩
  iapply (Rounds.cell_close ER (Rd m) (κ := K (c, k)) (Set.mem_univ _) (fun h => h) (R := k.rounds) (duties_later m c k))
  isplitr; · iapply (inv_at m K c k); iexact HI
  iexact H

/-! ## What a device starts with -/

/-- The duties a device pays. -/
def payToks (c : Dev nD) : sProp 𝕄 :=
  iprop(bigSep (Finset.Ico 0 7) (toks c) ∗ bigSep (Finset.Ico 0 16) fun r => dutyTok ER (cell c .copy) r false)
/-- Every cell is at round 0 at least. -/
def marks : sProp 𝕄 := bigSep Finset.univ fun ck : Dev nD × Cell => reached ER (cell ck.1 ck.2) 0
omit [FloatOps F] in
instance marks_persistent : BI.Persistent (marks (F := F)) := by unfold marks; infer_instance
omit [FloatOps F] in
theorem mark_at (c : Dev nD) (k : Cell) : (marks (F := F)) ⊢ reached ER (cell c k) 0 := bigSep_elim (Finset.mem_univ (c, k))

def ghost (c : Dev nD) : sProp 𝕄 := iprop(Inv m K ∗ marks ∗ pos c (fun _ => 0) ∗ payToks c)
def start (c : Dev nD) : sProp 𝕄 :=
  iprop((∃ K, ghost m K c) ∗ bigSep (Finset.Ico 0 7) (creds c) ∗ levAts L lv ∗ xPts m c
    ∗ (∃ f, ((c : Thread nD τ).loc main_v1_1) ↦{fullShare} f) ∗ (∃ f, ((c : Thread nD τ).loc main_v1_2) ↦{fullShare} f))
def scratch (c : Dev nD) : sProp 𝕄 :=
  iprop(∃ f : Buf (Elt F) ((c : Thread nD τ).loc cc0_scratch0), ((c : Thread nD τ).loc cc0_scratch0) ↦{fullShare} f)
def Φ₀ (c : Dev nD) : sProp 𝕄 := iprop(start m c ∗ scratch c)
def Φ₁ (c : Dev nD) : sProp 𝕄 := iprop(sems0 c ∗ xPts m c ∗ scratch c)

omit [FloatOps F] in
theorem st_intro (c : Dev nD) :
    iprop(owesE c (Ow c 0) ∗ marks ∗ bigSep (Finset.Ico 0 7) (toks c) ∗ bigSep (Finset.Ico 0 7) (creds c) ∗ pos c (fun _ => 0) ∗ scratch c
        ∗ bigSep (Finset.Ico 0 16) fun r => dutyTok ER (cell c .copy) r false)
      ⊢ (iprop(st c 0 ∗ copySt c 0) : sProp 𝕄) := by
  unfold pos st cells copySt scratch stageHas
  rw [bigSep_cell]
  iintro ⟨HO, #Hm, Ht, Hc, ⟨Hb, Hs10, Hs11, Hr10, Hr11, Hs00, Hs01, Hr00, Hr01, Hcp⟩, ⟨%f, Hscr⟩, Htc⟩
  isplitl [HO Ht Hc Hb Hs10 Hs11 Hr10 Hr11 Hs00 Hs01 Hr00 Hr01]
  · isplitl [HO]; · iexact HO
    isplitl [Hb]; · iexact Hb
    isplitr; · iapply (mark_at (lft c) .bar); iexact Hm
    isplitr; · iapply (mark_at (rgt c) .bar); iexact Hm
    isplitl [Hs10 Hs11 Hr10 Hr11]
    · isplitl [Hs10 Hr10]
      · isplitl [Hs10]
        · isplitl [Hs10]; · iexact Hs10
          iapply (mark_at c (.send true false)); iexact Hm
        isplitl [Hr10]; · iexact Hr10
        iapply (mark_at c (.recv true false)); iexact Hm
      isplitl [Hs11]
      · isplitl [Hs11]; · iexact Hs11
        iapply (mark_at c (.send true true)); iexact Hm
      isplitl [Hr11]; · iexact Hr11
      iapply (mark_at c (.recv true true)); iexact Hm
    isplitl [Hs00 Hs01 Hr00 Hr01]
    · isplitl [Hs00 Hr00]
      · isplitl [Hs00]
        · isplitl [Hs00]; · iexact Hs00
          iapply (mark_at c (.send false false)); iexact Hm
        isplitl [Hr00]; · iexact Hr00
        iapply (mark_at c (.recv false false)); iexact Hm
      isplitl [Hs01]
      · isplitl [Hs01]; · iexact Hs01
        iapply (mark_at c (.send false true)); iexact Hm
      isplitl [Hr01]; · iexact Hr01
      iapply (mark_at c (.recv false true)); iexact Hm
    isplitl [Ht]; · iexact Ht
    iexact Hc
  isplitl [Hcp]; · iexact Hcp
  isplitr; · iapply (mark_at c .copy); iexact Hm
  isplitl [Htc]; · iexact Htc
  iexists _; iexists f
  isplitr; · ipureintro; exact rfl
  rw [show (sM).view.set = Finset.univ from View.set_whole _]
  iexact Hscr

omit [FloatOps F] in
theorem st_elim (c : Dev nD) :
    (iprop(st c 7 ∗ copySt c 16) : sProp 𝕄) ⊢ iprop(owesE c 0 ∗ pos c Cell.rounds ∗ scratch c) := by
  unfold pos st cells copySt scratch stageHas
  rw [bigSep_cell, Ow_end]
  iintro ⟨⟨HO, Hb, -, -, ⟨⟨⟨Hs11, -⟩, ⟨Hr11, -⟩⟩, ⟨⟨Hs10, -⟩, ⟨Hr10, -⟩⟩⟩, ⟨⟨⟨Hs01, -⟩, ⟨Hr01, -⟩⟩, ⟨⟨Hs00, -⟩, ⟨Hr00, -⟩⟩⟩, -⟩, ⟨Hcp, -, -, ⟨%v, %f, -, Hscr⟩⟩⟩
  isplitl [HO]; · iexact HO
  isplitr [Hscr]
  · isplitl [Hb]; · iexact Hb
    isplitl [Hs10]; · iexact Hs10
    isplitl [Hs11]; · iexact Hs11
    isplitl [Hr10]; · iexact Hr10
    isplitl [Hr11]; · iexact Hr11
    isplitl [Hs00]; · iexact Hs00
    isplitl [Hs01]; · iexact Hs01
    isplitl [Hr00]; · iexact Hr00
    isplitl [Hr01]; · iexact Hr01
    iexact Hcp
  iexists f
  ihave H := (Entails.of_eq (congrArg (fun S => (((sM).view.loc (c : Thread nD τ) ↦[S]{fullShare} f) : sProp 𝕄)) (show (sM).view.set = Finset.univ from View.set_whole _))) $$ Hscr
  iexact H

/-- Sixteen products cover the result. -/
theorem blk_covers (c : Dev nD) (i : S8192x512.Idx) : ∃ r < 16, InBlk c r i := by
  have hi : (i 0).val < 8192 := (i 0).isLt
  have hc : c.val < 8 := c.isLt
  by_cases h : (i 0).val % 1024 < 512
  · refine ⟨2 * ((c.val + 8 - (i 0).val / 1024) % 8), by omega, ?_⟩
    have e1 : cStr (2 * ((c.val + 8 - (i 0).val / 1024) % 8)) = true := by simp [cStr]
    have e2 : cMsg (2 * ((c.val + 8 - (i 0).val / 1024) % 8)) = (c.val + 8 - (i 0).val / 1024) % 8 := by simp only [cMsg]; omega
    unfold InBlk blkOff
    rw [e1, e2]
    simp only [Matrix.cons_val_zero, frmN_val true _ c (Nat.le_of_lt (Nat.mod_lt _ (by decide))), if_true]
    omega
  · refine ⟨2 * (((i 0).val / 1024 + 8 - c.val) % 8) + 1, by omega, ?_⟩
    have e1 : cStr (2 * (((i 0).val / 1024 + 8 - c.val) % 8) + 1) = false := by
      simp only [cStr, beq_eq_false_iff_ne]; omega
    have e2 : cMsg (2 * (((i 0).val / 1024 + 8 - c.val) % 8) + 1) = ((i 0).val / 1024 + 8 - c.val) % 8 := by simp only [cMsg]; omega
    unfold InBlk blkOff
    rw [e1, e2]
    simp only [Matrix.cons_val_zero, frmN_val false _ c (Nat.le_of_lt (Nat.mod_lt _ (by decide))), Bool.false_eq_true, if_false]
    omega

theorem outHas_elim (c : Dev nD) : outHas m c 16 ⊢ (((c : Thread nD τ).loc cc0_stg1_0) ↦{fullShare} outAt m c : sProp 𝕄) := by
  unfold outHas
  iintro ⟨%f, %hf, H⟩
  have e : f = outAt m c := funext fun i => by
    obtain ⟨r, hr, hi⟩ := blk_covers c i
    exact hf r hr i hi
  subst e
  iexact H

/-! ## The body -/

/-- Window 0 is the device's columns of `w`, window 1 the result. -/
def dats (_ : Fin 1) (c : Dev nD) : Dat τ (Elt F) ℕ ℕ UU ℕ cfg0 c where
  A w := m ((cfg0.win w).arr.view.loc (c : Thread nD τ))
  after w _ := match w with
    | ⟨0, _⟩ => wstg m c
    | ⟨1, _⟩ => outAt m c
  Φ t := match t with
    | ⟨0, _⟩ => Φ₀ m c
    | ⟨_ + 1, _⟩ => Φ₁ m c
  q _ := fullShare
  owed t := match t with
    | ⟨0, _⟩ => Ow c 0
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt 0 t0_0.succ ∗ stg c cc0_stg0_0 (wstg m c) ∗ stg c cc0_stg1_0 (outAt m c))

theorem sound_body (c : Dev nD) : bodyPre m c ⊢ WP c hops (fun _ => bodyPost m c) := by
  refine BIBase.Entails.trans ?_ (wp_fupd _ _ _ _ _)
  unfold bodyPre Φ₀ start ghost payToks
  iintro ⟨⟨⟨⟨%K, #HI, #Hm, Hpos, Htk, Htc⟩, Hcr, #Hlev, Hx, ⟨%f1, Hcw⟩, ⟨%f2, Hcc⟩⟩, Hscr⟩, Ho, ⟨%d0, %g0, %hg0, Hw⟩, ⟨%d1, %g1, %hg1, Hout⟩⟩
  have hw : g0 = wstg m c := by rw [hg0]; unfold Dat.before; rw [if_pos (fetch0_0 t0_0)]; rfl
  subst hw
  unfold Dat.owesAt Pipeline.owesWithin
  icases Ho with ⟨%W, %hW, HO⟩
  rw [show (dats m 0 c).owed t0_0.castSucc = Ow c 0 from rfl]
  iapply (wp_hops m K c _)
  isplitr; · iexact HI
  isplitr; · iexact Hlev
  isplitr []
  · ihave Hst := (st_intro c) $$ [HO Htk Hcr Hpos Hscr Htc]
    · isplitl [HO]; · unfold owesE; iexists W; iexact HO
      isplitr; · iexact Hm
      isplitl [Htk]; · iexact Htk
      isplitl [Hcr]; · iexact Hcr
      isplitl [Hpos]; · iexact Hpos
      isplitl [Hscr]; · iexact Hscr
      iexact Htc
    icases Hst with ⟨Hst, Hcp⟩
    ihave Hs1 := (slots_cw c f1) $$ Hcw
    ihave Hs2 := (slots_cc c f2) $$ Hcc
    icases Hs1 with ⟨Hs11, Hs10⟩
    icases Hs2 with ⟨Hs21, Hs20⟩
    isplitl [Hst]; · iexact Hst
    isplitl [Hs11 Hs21]
    · isplitl [Hs11]; · iexact Hs11
      iexact Hs21
    isplitl [Hs10 Hs20]
    · isplitl [Hs10]; · iexact Hs10
      iexact Hs20
    isplitl [Hx]; · iapply (xAll_intro m c); iexact Hx
    isplitl [Hcp]; · iexact Hcp
    isplitl [Hw]; · unfold wPts; iexact Hw
    unfold outHas
    iexists g1
    isplitr; · ipureintro; exact fun r hr => absurd hr (Nat.not_lt_zero _)
    iexact Hout
  · iintro ⟨H, Hx⟩
    unfold hopSt
    icases H with ⟨Hst, -, -, Hcp, Hw, Hout⟩
    ihave H := (st_elim c) $$ [Hst Hcp]
    · isplitl [Hst]; · iexact Hst
      iexact Hcp
    icases H with ⟨HO, Hpos, Hscr⟩
    imod (close m K c) $$ [Hpos] with Hz
    · isplitr; · iexact HI
      iexact Hpos
    imodintro
    unfold bodyPost Φ₁ Dat.owesAt Pipeline.owesWithin owesE
    icases HO with ⟨%W', HO⟩
    rw [show (dats m 0 c).owed t0_0.succ = 0 from rfl]
    isplitl [Hz Hx Hscr]
    · isplitl [Hz]; · iexact Hz
      isplitl [Hx]; · iapply (xAll_elim m c); iexact Hx
      iexact Hscr
    isplitl [HO]
    · iexists W'
      isplitr; · ipureintro; exact fun _ _ => Or.inl trivial
      iexact HO
    isplitl [Hw]
    · iexists _; isplitr
      swap; · unfold wPts; iexact Hw
      ipureintro; rfl
    iexists _; isplitr
    swap; · iapply (outHas_elim m c); iexact Hout
    ipureintro; rfl

/-- What the pipeline runs at its one point. -/
theorem defs_point : (defs₀ (F := F) Proc.tc 0 (t0_0, cfg0.slots t0_0) : P (F := F) PUnit) = hops := by
  refine Eq.trans ?_ body_eq_hops
  unfold defs₀ Defs.onTc
  rfl

set_option maxRecDepth 4000 in
/-- The library's body obligation on core `c`. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  rw [defs_point]
  have h := sound_body m c
  generalize (hops : P (F := F) PUnit) = p at h ⊢
  exact h

end Cert.Ring

end
-- ==== Proof.Launch.lean ====
/-
# The launch, and the run of @main

What is minted at the start: every cell at round 0, and for each device the tokens of the duties IT pays, so nothing has
to be dealt around. The cells' invariants are allocated for all devices at once, from their semaphores at zero, and every
device holds all of them. What the devices owe one another at the start is, cell by cell, what each is owed.
-/
module

public import proofs.«01_k».proof.Proof.Body
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Cells and tokens -/

theorem cell_inj {c c' : Dev nD} {k k' : Cell} (h : cell c k = cell c' k') : c = c' ∧ k = k' :=
  ⟨congrArg (fun g : GSem nD τ sig => g.1.1) h, Cell.sem_injective (congrArg Prod.snd h)⟩
def ringCells : Finset (GSem nD τ sig) :=
  Finset.univ.map ⟨fun ck : Dev nD × Cell => cell ck.1 ck.2, fun a b h => Prod.ext (cell_inj h).1 (cell_inj h).2⟩

/-- The tokens of a device: six in each hop, and one for each local copy. -/
abbrev TokIx : Type := (Fin 7 × Fin 6) ⊕ Fin 16
abbrev tokOf : Dev nD × TokIx → GSem nD τ sig × ℕ × Bool
  | (c, .inl (h, 0)) => (cell (lft c) .bar, h.val, true)
  | (c, .inl (h, 1)) => (cell (rgt c) .bar, h.val, false)
  | (c, .inl (h, 2)) => (cell c (.send true (par h.val)), h.val / 2, false)
  | (c, .inl (h, 3)) => (cell (rgt c) (.recv true (par h.val)), h.val / 2, false)
  | (c, .inl (h, 4)) => (cell c (.send false (par h.val)), h.val / 2, false)
  | (c, .inl (h, 5)) => (cell (lft c) (.recv false (par h.val)), h.val / 2, false)
  | (c, .inr r) => (cell c .copy, r.val, false)

/-- Whose token it is, of which hop (or copy), and which of the hop's. -/
def tokNo (c : Dev nD) (r : ℕ) (d : Bool) : Cell → Dev nD × ℕ × ℕ
  | .bar => if d then (rgt c, r, 0) else (lft c, r, 1)
  | .send true p => (c, hopOf p r, 2)
  | .recv true p => (lft c, hopOf p r, 3)
  | .send false p => (c, hopOf p r, 4)
  | .recv false p => (rgt c, hopOf p r, 5)
  | .copy => (c, r, 6)
def numOf (x : GSem nD τ sig × ℕ × Bool) : Option (Dev nD × ℕ × ℕ) := (ofSem x.1.2).map (tokNo x.1.1.1 x.2.1 x.2.2)
theorem numOf_cell (c : Dev nD) (k : Cell) (r : ℕ) (d : Bool) : numOf (cell c k, r, d) = some (tokNo c r d k) := by
  show (ofSem k.sem).map _ = _
  rw [ofSem_sem]; rfl
def ixNo : TokIx → ℕ × ℕ
  | .inl (h, j) => (h.val, j.val)
  | .inr r => (r.val, 6)
theorem numOf_tokOf (c : Dev nD) (i : TokIx) : numOf (tokOf (c, i)) = some (c, ixNo i) := by
  have e1 : rgt (lft c) = c := tow_frm true c
  have e2 : lft (rgt c) = c := frm_tow true c
  rcases i with ⟨h, j⟩ | r
  · fin_cases j <;> refine (numOf_cell _ _ _ _).trans (congrArg some ?_) <;>
      simp only [tokNo, hopOf_par, e1, e2, if_true, Bool.false_eq_true, if_false] <;> rfl
  · exact numOf_cell _ _ _ _
theorem ixNo_injective : Function.Injective ixNo := by
  rintro (⟨h, j⟩ | r) (⟨h', j'⟩ | r') e <;> simp only [ixNo, Prod.mk.injEq] at e
  · rw [Fin.ext e.1, Fin.ext e.2]
  · have := j.isLt; omega
  · have := j'.isLt; omega
  · rw [Fin.ext e.1]
theorem tokOf_injective : Function.Injective tokOf := by
  rintro ⟨c, i⟩ ⟨c', i'⟩ h
  have e : (c, ixNo i) = (c', ixNo i') := Option.some.inj (by rw [← numOf_tokOf, ← numOf_tokOf, h])
  rw [Prod.mk.injEq] at e
  rw [e.1, ixNo_injective e.2]
def ringToks : Finset (GSem nD τ sig × ℕ × Bool) := Finset.univ.map ⟨tokOf, tokOf_injective⟩

omit [FloatOps F] in
theorem bigSep_range (n : ℕ) (Φ : ℕ → sProp 𝕄) : bigSep Finset.univ (fun i : Fin n => Φ i.val) = bigSep (Finset.Ico 0 n) Φ := by
  rw [← Finset.range_eq_Ico, ← Nat.Iio_eq_range, ← Fin.map_valEmbedding_univ, bigSep_map]; rfl

omit [FloatOps F] in
theorem toks_eq (c : Dev nD) :
    (bigSep Finset.univ fun i : TokIx => (dutyTok ER (tokOf (c, i)).1 (tokOf (c, i)).2.1 (tokOf (c, i)).2.2 : sProp 𝕄)) ⊢ payToks c := by
  rw [bigSep_univ_sum, bigSep_univ_prod]
  unfold payToks
  rw [← bigSep_range 7 (toks c), ← bigSep_range 16 (fun r => dutyTok ER (cell c .copy) r false)]
  refine sep_mono_left (bigSep_mono fun h _ => ?_)
  rw [bigSep_univ_eq_bigSepL [0, 1, 2, 3, 4, 5] (by decide) (by decide)]
  unfold toks
  simp only [bigSepL_cons_cons, bigSepL_singleton]
  show (iprop(_ ∗ _ ∗ _ ∗ _ ∗ _ ∗ _) : sProp 𝕄) ⊢ _
  iintro ⟨H0, H1, H2, H3, H4, H5⟩
  isplitl [H0 H1]
  · isplitl [H0]; · iexact H0
    iexact H1
  isplitl [H2 H3]
  · isplitl [H2]; · iexact H2
    iexact H3
  isplitl [H4]; · iexact H4
  iexact H5

/-! ## The launch's element -/

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Cell => roundState ER (Rd m) (cell c k) 0)
    ∗ pos c (fun _ => 0) ∗ (bigSep Finset.univ fun k : Cell => reached ER (cell c k) 0) ∗ payToks c)
/-- What the global step makes of it. -/
def G' (c : Dev nD) : sProp 𝕄 := iprop(∃ K, ghost m K c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (cell c k) := by
    unfold ringCells; rw [bigSep_map, bigSep_univ_prod]; rfl
  have hT : bigSep ringToks (fun x => (dutyTok ER x.1 x.2.1 x.2.2 : sProp 𝕄)) ⊢ bigSep Finset.univ fun c : Dev nD => payToks c := by
    unfold ringToks; rw [bigSep_map, bigSep_univ_prod]
    exact bigSep_mono fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G pos; simp only [bigSep_sep']
  isplitl [Hst']; · iexact Hst'
  isplitl [Hat']; · iexact Hat'
  isplitl [Hr']; · iexact Hr'
  iexact Htok'

/-! ## The semaphores -/

/-- The kernel's own semaphores: all cells' but the barrier's. -/
abbrev ownCell : Fin 9 → Cell
  | 0 => .send true false | 1 => .send true true | 2 => .recv true false | 3 => .recv true true
  | 4 => .send false false | 5 => .send false true | 6 => .recv false false | 7 => .recv false true | 8 => .copy
abbrev osem (k : Fin 9) : SemLoc sig := (ownCell k).sem
theorem ownSemFacts : Pipeline.OwnSemFacts cfg0.spec osem := by decide

omit [FloatOps F] in
theorem sems_eq (c : Dev nD) :
    (iprop(Pipeline.ownSems0 (Ix := ℕ) (Name := ℕ) (U := UU) (Lvl := ℕ) (Val := Elt F) (τ := τ) osem c ∗ unscopedSems0 c) : sProp 𝕄)
      ⊣⊢ sems0 c := by
  unfold sems0 unscopedSems0
  rw [Pipeline.ownSems0_eq_of_list c osem [0, 1, 2, 3, 4, 5, 6, 7, 8] (by decide) (by decide),
    bigSep_eq_bigSepL_of_eq [SemLoc.reg barS] (by decide) (by decide), bigSep_cell]
  exact sep_comm

omit [FloatOps F] in
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (cell c k)))
          ∗ pos c (fun _ => 0) ∗ (bigSep Finset.univ fun k : Cell => reached ER (cell c k) 0) ∗ payToks c) := by
  unfold G
  iintro ⟨Hos, Hus, Hst, Hrest⟩
  ihave Hv := (sems_eq (F := F) c).1 $$ [Hos Hus]
  · isplitl [Hos]; · iexact Hos
    iexact Hus
  unfold sems0
  imod (show iprop((bigSep Finset.univ fun k : Cell => semVal (cell c k) 0) ∗ bigSep Finset.univ fun k : Cell => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  iexact Hrest

omit [FloatOps F] in
theorem ghost_intro (K : Dev nD × Cell → ℕ) (c : Dev nD) : iprop((Inv m K ∗ marks) ∗ (pos c (fun _ => 0) ∗ payToks c)) ⊢ G' m c := by
  unfold G' ghost
  iintro ⟨⟨HI, Hm⟩, Hp, Ht⟩
  iexists K
  isplitl [HI]; · iexact HI
  isplitl [Hm]; · iexact Hm
  isplitl [Hp]; · iexact Hp
  iexact Ht

omit [FloatOps F] in
theorem regroup :
    (bigSep Finset.univ fun c : Dev nD => iprop((bigSep Finset.univ fun k : Cell => iprop(∃ κ : ℕ, cellInv ER (Rd m) κ (cell c k)))
          ∗ pos c (fun _ => 0) ∗ (bigSep Finset.univ fun k : Cell => reached ER (cell c k) 0) ∗ payToks c) : sProp 𝕄)
      ⊢ bigSep Finset.univ (G' m) := by
  rw [bigSep_sep', bigSep_sep', bigSep_sep', ← bigSep_univ_prod (fun ck : Dev nD × Cell => iprop(∃ κ : ℕ, cellInv ER (Rd m) κ (cell ck.1 ck.2))),
    ← bigSep_univ_prod (fun ck : Dev nD × Cell => (reached ER (cell ck.1 ck.2) 0 : sProp 𝕄))]
  iintro ⟨HI, Hp, #HR, Ht⟩
  ihave HK := (BI.bigSep_exists_pi Finset.univ (fun (ck : Dev nD × Cell) (κ : ℕ) => (cellInv ER (Rd m) κ (cell ck.1 ck.2) : sProp 𝕄))) $$ HI
  icases HK with ⟨%K, #HI⟩
  iapply (bigSep_with_persistent (R := iprop(Inv m K ∗ marks)) fun c _ => ghost_intro m K c)
  isplitr
  · unfold Inv marks
    isplitr; · iexact HI
    iexact HR
  · rw [bigSep_sep']
    isplitl [Hp]; · iexact Hp
    iexact Ht

omit [FloatOps F] in
/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device is dealt -/

/-- What device `d` is owed in hop `h`. -/
def due (d : Dev nD) (h : ℕ) : CellTallies nD τ sig ℕ := tR d false h + tR d true h + tallyAt (cell d .bar) h 2

def ringE : Dev nD ≃ Dev nD := ⟨rgt, lft, frm_tow true, tow_frm true⟩

theorem owes_due (h : ℕ) : (∑ d : Dev nD, hopOwes d h) = ∑ d : Dev nD, due d h := by
  unfold hopOwes due
  simp only [Finset.sum_add_distrib]
  rw [show (∑ d : Dev nD, tR (lft d) false h) = ∑ d : Dev nD, tR d false h from Equiv.sum_comp ringE.symm fun d => tR d false h,
    show (∑ d : Dev nD, tR (rgt d) true h) = ∑ d : Dev nD, tR d true h from Equiv.sum_comp ringE fun d => tR d true h,
    show (∑ d : Dev nD, tB (rgt d) h) = ∑ d : Dev nD, tB d h from Equiv.sum_comp ringE fun d => tB d h,
    show (∑ d : Dev nD, tB (lft d) h) = ∑ d : Dev nD, tB d h from Equiv.sum_comp ringE.symm fun d => tB d h,
    add_assoc, ← Finset.sum_add_distrib (f := fun d : Dev nD => tB d h)]
  exact congrArg _ (Finset.sum_congr rfl fun d _ => tallyAt_add _ _ _ _)

theorem due_ne {c d : Dev nD} (h : d ≠ c) (k : Cell) (n : ℕ) : due d n (cell c k) = 0 := by
  unfold due tR
  have e (k' : Cell) : cell c k ≠ cell d k' := fun e => h (cell_inj e).1.symm
  rw [Pi.add_apply, Pi.add_apply, tallyAt_ne_cell (e _), tallyAt_ne_cell (e _), tallyAt_ne_cell (e _), add_zero, add_zero]

theorem total_at (c : Dev nD) (k : Cell) : (∑ d : Dev nD, Ow d 0) (cell c k) = ∑ h ∈ Finset.Ico 0 7, due c h (cell c k) := by
  unfold Ow
  rw [Finset.sum_comm, Finset.sum_congr rfl fun h _ => owes_due h, Finset.sum_apply]
  refine Finset.sum_congr rfl fun h _ => ?_
  rw [Finset.sum_apply]
  exact Finset.sum_eq_single c (fun d _ hd => due_ne hd k h) (fun hc => absurd (Finset.mem_univ c) hc)

theorem tallyOn_sum (g : GSem nD τ sig) (s : Finset ℕ) (κ : ℕ → Tally ℕ) :
    (tallyOn g (∑ h ∈ s, κ h) : CellTallies nD τ sig ℕ) = ∑ h ∈ s, tallyOn g (κ h) := by
  induction s using Finset.induction_on with
  | empty => rw [Finset.sum_empty, Finset.sum_empty, tallyOn_zero]
  | insert a s ha ih => rw [Finset.sum_insert ha, Finset.sum_insert ha, tallyOn_add, ih]

theorem due_bar (c : Dev nD) (h : ℕ) : (tallyOn (cell c .bar) (due c h (cell c .bar)) : CellTallies nD τ sig ℕ) = tallyAt (cell c .bar) h 2 := by
  have e (k : Cell) (hk : Cell.bar ≠ k) : cell c .bar ≠ cell c k := fun e => hk (cell_inj e).2
  unfold due tR
  rw [Pi.add_apply, Pi.add_apply, tallyAt_ne_cell (e _ (by simp)), tallyAt_ne_cell (e _ (by simp)), zero_add, zero_add]
  unfold tallyAt
  rw [tallyOn_self]
theorem due_recv (c : Dev nD) (δ : Bool) (h : ℕ) :
    (tallyOn (cell c (.recv δ (par h))) (due c h (cell c (.recv δ (par h)))) : CellTallies nD τ sig ℕ) = tallyAt (cell c (.recv δ (par h))) h N := by
  have e (k : Cell) (hk : Cell.recv δ (par h) ≠ k) : cell c (.recv δ (par h)) ≠ cell c k := fun e => hk (cell_inj e).2
  unfold due tR
  cases δ
  · rw [Pi.add_apply, Pi.add_apply, tallyAt_ne_cell (e (.recv true (par h)) (by simp)), tallyAt_ne_cell (e .bar (by simp)), add_zero, add_zero]
    unfold tallyAt; rw [tallyOn_self]
  · rw [Pi.add_apply, Pi.add_apply, tallyAt_ne_cell (e (.recv false (par h)) (by simp)), tallyAt_ne_cell (e .bar (by simp)), add_zero, zero_add]
    unfold tallyAt; rw [tallyOn_self]

omit [FloatOps F] in
/-- A cell's credit, hop by hop. -/
theorem cred_cell (c : Dev nD) (k : Cell) :
    (cred (tallyOn (cell c k) (launchCredit (Pipeline.owing fun d => Ow d 0) 0 (cell c k))) : sProp 𝕄)
      = bigSep (Finset.Ico 0 7) fun h => cred (tallyOn (cell c k) (due c h (cell c k))) := by
  rw [Pipeline.tallyOn_launchCredit_owing, total_at, tallyOn_sum, Pipeline.cred_finsetSum]

omit [FloatOps F] in
theorem recv_pair (c : Dev nD) (δ : Bool) (h : ℕ) :
    (iprop(cred (tallyOn (cell c (.recv δ false)) (due c h (cell c (.recv δ false)))) ∗ cred (tallyOn (cell c (.recv δ true)) (due c h (cell c (.recv δ true))))) : sProp 𝕄)
      ⊢ cred (tallyAt (cell c (.recv δ (par h))) h N) := by
  rw [← due_recv]
  cases par h
  · iintro ⟨H, -⟩; iexact H
  · iintro ⟨-, H⟩; iexact H

omit [FloatOps F] in
theorem creds_intro (c : Dev nD) : (Pipeline.launchCred (fun d => Ow d 0) c : sProp 𝕄) ⊢ bigSep (Finset.Ico 0 7) (creds c) := by
  have e : (Pipeline.launchCred (fun d => Ow d 0) c : sProp 𝕄)
      ⊢ bigSep Finset.univ fun k : Cell => bigSep (Finset.Ico 0 7) fun h => cred (tallyOn (cell c k) (due c h (cell c k))) := by
    unfold Pipeline.launchCred
    refine (bigSep_subset (Finset.subset_univ (Finset.univ.map ⟨Cell.sem, Cell.sem_injective⟩))).trans ?_
    rw [bigSep_map]
    exact bigSep_mono fun k _ => Entails.of_eq (cred_cell c k)
  refine e.trans ?_
  rw [bigSep_cell]
  unfold creds
  rw [bigSep_sep', bigSep_sep']
  iintro ⟨Hb, -, -, H10, H11, -, -, H00, H01, -⟩
  isplitl [Hb]
  · iapply (Entails.of_eq (bigSep_congr fun h _ => congrArg cred (due_bar c h))); iexact Hb
  isplitl [H10 H11]
  · iapply ((Entails.of_eq (bigSep_sep' _ _ _).symm).trans (bigSep_mono fun h _ => recv_pair c true h))
    isplitl [H10]; · iexact H10
    iexact H11
  · iapply ((Entails.of_eq (bigSep_sep' _ _ _).symm).trans (bigSep_mono fun h _ => recv_pair c false h))
    isplitl [H00]; · iexact H00
    iexact H01

/-! ## The theorem's side conditions -/

theorem share_eq (c : Dev nD) (w : Fin cfg0.W) : (dats m 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  rw [Pipeline.unscopedRestP_none, unscopedRest0_eq]
  iintro ⟨⟨Hx, H1, H2⟩, Hlev, Hcr, -, HG⟩
  ihave Hc := (creds_intro (F := F) c) $$ Hcr
  imodintro
  unfold start G' xPts
  isplitl
  · isplitl [HG]; · iexact HG
    isplitl [Hc]; · iexact Hc
    isplitl [Hlev]; · iexact Hlev
    isplitl [Hx]; · iexact Hx
    isplitl [H1]; · iexists _; iexact H1
    iexists _; iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ xPts m c) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hz, Hx, Hr⟩
  ihave H := (sems_eq (F := F) c).2 $$ Hz
  icases H with ⟨Ho, Hu⟩
  isplitl [Hu Hx]
  · isplitl [Hu]; · iexact Hu
    iexact Hx
  isplitl [Ho]; · iexact Ho
  iexact Hr

omit [FloatOps F] in
/-- A semaphore that is none of the ring's lies at level zero. -/
theorem lv_zero (c : Dev nD) {s : SemLoc sig} (h : ofSem s = none) : lv ((c : Thread nD τ), s) 0 ≤ 0 := by
  show (match ofSem s with | some k => k.lv 0 | none => 0) ≤ 0
  rw [h]

theorem waits (c : Dev nD) : (levAts L lv : sProp 𝕄) ⊢ Pipeline.cellsWaits cfgs (dats m) 0 0 c :=
  Pipeline.cellsWaits_intro cfgs (dats m) 0 0 c fun w s t =>
    mayWait (b := 0) (by
      rcases t with ⟨_ | _, ht⟩
      · exact Above.Ow c 0
      · exact Above.zero 0) c _ (by decide) (lv_zero c (by fin_cases w <;> fin_cases s <;> decide))

/-! ## The run -/

def s₀ : MemSt nD τ sig (Elt F) := ⟨m, fun _ => 0, ρ⟩
def finalA (c : Dev nD) (w : Fin cfg0.W) : Buf (Elt F) ((cfg0.win w).arr.view.loc (c : Thread nD τ)) := (dats m 0 c).arrAt w cfg0.N

set_option maxRecDepth 8000 in
/-- At the mesh of eight devices, for any float values, from any memory with zero counters: every weakly fair execution of
    @main terminates, and every final state has each device's two windowed arrays as computed, its `x` as it was, and
    every semaphore counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => Ow d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(unscopedSems0 c ∗ xPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hx⟩, -, HSI⟩
      unfold xPts
      icombine HSI Hx gives %hx
      imod (Pipeline.unscopedSems0_read (X := unscopedSems0 c) (c := c) fupd_intro s') $$ [Hu HSI] with ⟨%h, HSI⟩
      · isplitl [Hu]; · iexact Hu
        iexact HSI
      imodintro
      isplitr
      · ipureintro; exact ⟨h, Buf.eq_of_forall_mem_univ hx⟩
      iexact HSI)
    (hQ := fun _ h hs => ⟨fun c => ⟨fun w => (h c).1 w, (h c).2.2.2⟩, sem_eq_zero hs fun c => (h c).2.2.1⟩)

end Cert.Ring

end
-- ==== Proof.Ref.lean ====
/-
  The reference, on its one device: its four operations one after another, what its result buffer ends holding (the product of
  the two whole arrays, clamped below at zero) and that its arguments stay.
-/
module

public import proofs.«01_k».proof.Defs
public import proofs.«01_k».proof.Proof.Gen.ReferenceIdeal
public import Idealize.ShloMosaic.Lib.StableHlo.Run
public import Idealize.ShloMosaic.Lib.Tactic

@[expose] public section

noncomputable section

namespace Cert.Ring.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its arguments: the product, and the larger of it and zero. -/
abbrev refOut (x : FVec F S8192x8192 .f32) (w : FVec F S8192x4096 .f32) : FVec F S8192x4096 .f32 :=
  maximumf (Host.dotGeneral dot_S8192x8192_S8192x4096_S8192x4096_1_0_0_1_n_n none x w)
    (broadcastInDim S8192x4096 ![] bcast_S_S8192x4096 (constant S_ .f32 0x00000000#32))

/-- @main's operations, in order. -/
abbrev ops : List (HloOp τ sig (Elt F)) :=
  [ binary main_arg0 main_arg1 main_v0 (fun l r => Host.dotGeneral dot_S8192x8192_S8192x4096_S8192x4096_1_0_0_1_n_n none l r),
    nullary main_cst (constant S_ .f32 0x00000000#32),
    unary main_cst main_v1 (broadcastInDim S8192x4096 ![] bcast_S_S8192x4096),
    binary main_v0 main_v1 main_v2 maximumf ]

theorem main_eq (c : Dev nD) : main (F := F) c = seq ops := rfl

theorem out_eq (V : Valuation τ sig (Elt F)) :
    after ops V (main_v2 : DevRef τ sig) = refOut (V (main_arg0 : DevRef τ sig)) (V (main_arg1 : DevRef τ sig)) := by
  after_results
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem ops_sub : (ops : List (HloOp τ sig (Elt F))).Forall fun op => op.bufs ⊆ tcRefs τ sig :=
  ⟨binary_bufs_sub .., nullary_bufs_sub .., unary_bufs_sub .., binary_bufs_sub ..⟩

/-- From any memory with zero counters every weakly fair execution of @main terminates, with the result buffer at `refOut` of
    the arguments' launch contents and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq (by decide) (by decide) defs main (fun _ => ops) main_eq (fun _ => ops_sub) m ρ)

end Cert.Ring.Ref

end
-- ==== Proof.Values.lean ====
/-
# What the kernel computes, at the ideal values

Entry by entry: a device's result block is the reference's whole result read at the block's columns. An entry of the product
is the sum over the 8192 contracted positions on either side, the kernel's accumulator being zero.
-/
module

public import proofs.«01_k».proof.Proof.Launch
public import proofs.«01_k».proof.Proof.Ref
public import Idealize.ShloMosaic.Lib.MatmulPlain
public import Idealize.ShloMosaic.Lib.StackMember
public import Idealize.ShloMosaic.Lib.KernelVsHost
public import Idealize.ShloMosaic.Lib.Layout
public import Idealize.ShloMosaic.Lib.Pipeline.ValueKit.Geometry

@[expose] public section

noncomputable section

namespace Cert.Ring

open Cert.KernelIdeal Cert.KernelIdeal.Gen
open Idealize.ShloMosaic
open Idealize.ShloMosaic.TcCoe
open Idealize.SL.Sem Idealize.ShloMosaic.ValueIdx Idealize.ShloMosaic.StackMember

variable {F : FTy → Type} [FloatOps F]
variable (m : (ℓ : Loc nD τ sig) → Buf (Elt F) ℓ)

/-! ## Reading the arguments -/

/-- The `w` window is the whole `w` array. -/
theorem wstg_eq (c : Dev nD) : wstg m c = m ((c : Thread nD τ).loc main_arg1) :=
  Memref.read_access_unit_zero (Elt F) main_arg1 (funext fun a => by fin_cases a <;> decide) (fun a => by fin_cases a <;> decide) _

/-- Row `a` of half `δ` is row `a`, or `512 + a`, of the device's block. -/
theorem half_true (c : Dev nD) (a : Fin 512) (b : Fin 8192) :
    half m true c (ix2 a b) = m ((c : Thread nD τ).loc main_arg0) (ix2 ⟨0 + a.val, by omega⟩ ⟨0 + b.val, by omega⟩) := by
  refine congrArg (m ((c : Thread nD τ).loc main_arg0)) (funext fun d => Fin.ext ?_)
  refine (ValueKit.view_emb_slice_whole_unit_val main_arg0 ![0, 0] S512x8192.size _ _ d).trans ?_
  match d with
  | ⟨0, _⟩ => rfl
  | ⟨1, _⟩ => rfl
theorem half_false (c : Dev nD) (a : Fin 512) (b : Fin 8192) :
    half m false c (ix2 a b) = m ((c : Thread nD τ).loc main_arg0) (ix2 ⟨512 + a.val, by omega⟩ ⟨0 + b.val, by omega⟩) := by
  refine congrArg (m ((c : Thread nD τ).loc main_arg0)) (funext fun d => Fin.ext ?_)
  refine (ValueKit.view_emb_slice_whole_unit_val main_arg0 ![512, 0] S512x8192.size _ _ d).trans ?_
  match d with
  | ⟨0, _⟩ => rfl
  | ⟨1, _⟩ => rfl
theorem half_row (δ : Bool) (c : Dev nD) (a : Fin 512) (b : Fin 8192) :
    half m δ c (ix2 a b) = m ((c : Thread nD τ).loc main_arg0) (ix2 ⟨(if δ then 0 else 512) + a.val, by split <;> omega⟩ b) := by
  cases δ
  · exact (half_false m c a b).trans (congrArg _ (congrArg (ix2 _) (Fin.ext (Nat.zero_add _))))
  · exact (half_true m c a b).trans (congrArg _ (congrArg (ix2 _) (Fin.ext (Nat.zero_add _))))

/-! ## One entry -/

theorem dot_k : dot_S512x8192_S8192x512_S512x512_1_0_0_1_n_n = DotDims.plain 512 8192 512 := rfl
theorem dot_r : Cert.ReferenceIdeal.dot_S8192x8192_S8192x4096_S8192x4096_1_0_0_1_n_n = DotDims.plain 8192 8192 4096 := rfl
theorem max_apply {s : Shape} (x y : FVec Ideal s .f32) (i : s.Idx) : maximumf x y i = FloatOps.maximumf (x i) (y i) := rfl
theorem max_sum_congr {f g : Fin 8192 → Ideal .f32} {z : Ideal .f32} (h : ∀ k, f k = g k) :
    FloatOps.maximumf (∑ k : Fin 8192, f k) z = FloatOps.maximumf (∑ k : Fin 8192, g k) z := by rw [show f = g from funext h]
theorem splat_apply {s : Shape} (z : Ideal .f32) (i : s.Idx) : broadcast s z i = z := rfl

/-- An entry of a block product. -/
theorem pay_apply (x : FVec Ideal S512x8192 .f32) (w : FVec Ideal S8192x512 .f32) (a : Fin 512) (b : Fin 512) :
    k0_pay1 x w (ix2 a b) = FloatOps.maximumf (F := Ideal) (φ := .f32) (∑ k : Fin 8192, x (ix2 a k) * w (ix2 k b)) (Scalar.ofBits .f32 0x00000000#32) := by
  unfold k0_pay1
  rw [shapeCast_self, matmul_zero_eq_dotGeneral]
  rw [dot_k, max_apply, splat_apply, dotGeneral_plain_apply]

/-- An entry of the reference. -/
theorem ref_apply (X : FVec Ideal Cert.ReferenceIdeal.S8192x8192 .f32) (W : FVec Ideal Cert.ReferenceIdeal.S8192x4096 .f32) (a : Fin 8192) (b : Fin 4096) :
    Ref.refOut X W (ix2 a b) = FloatOps.maximumf (F := Ideal) (φ := .f32) (∑ k : Fin 8192, X (ix2 a k) * W (ix2 k b)) (Scalar.ofBits .f32 0x00000000#32) := by
  unfold Ref.refOut
  rw [broadcastInDim_constant]
  rw [dot_r, max_apply, splat_apply, dotGeneral_plain_apply]

/-! ## The block -/

/-- Device `c`'s result is its block of columns of the reference's. -/
theorem outAt_block (m : (ℓ : Loc nD τ sig) → Buf (Elt Ideal) ℓ) (X : FVec Ideal Cert.ReferenceIdeal.S8192x8192 .f32)
    (W : FVec Ideal Cert.ReferenceIdeal.S8192x4096 .f32)
    (hX : ∀ c : Dev nD, m ((c : Thread nD τ).loc main_arg0) = Layout.block ⟨2, ![1024, 8192]⟩ ⟨2, ![8192, 8192]⟩ 0 8 c X)
    (hW : ∀ c : Dev nD, m ((c : Thread nD τ).loc main_arg1) = Layout.block ⟨2, ![8192, 512]⟩ ⟨2, ![8192, 4096]⟩ 1 8 c W) (c : Dev nD) :
    outAt m c = Layout.block ⟨2, ![8192, 512]⟩ ⟨2, ![8192, 4096]⟩ 1 8 c (Ref.refOut X W) := by
  funext i
  have h0 : (i 0).val < 8192 := (i 0).isLt
  have h1 : (i 1).val < 512 := (i 1).isLt
  have hc : c.val < 8 := c.isLt
  set a : Fin 8192 := ⟨(i 0).val, h0⟩ with ha
  set b : Fin 4096 := ⟨c.val * 512 + (i 1).val, by omega⟩ with hb
  have er : Layout.block ⟨2, ![8192, 512]⟩ ⟨2, ![8192, 4096]⟩ 1 8 c (Ref.refOut X W) (by decide) i = Ref.refOut X W (ix2 a b) := by
    refine congrArg (Ref.refOut X W) (funext fun d => ?_)
    match d with
    | ⟨0, _⟩ => rfl
    | ⟨1, _⟩ => rfl
  have el : outAt m c i = k0_pay1 (half m (decide ((i 0).val % 1024 < 512)) ⟨(i 0).val / 1024, Nat.div_lt_of_lt_mul (show (i 0).val < 1024 * 8 from (i 0).isLt)⟩) (wstg m c)
      (ix2 ⟨(i 0).val % 512, Nat.mod_lt _ (by decide)⟩ ⟨(i 1).val, h1⟩) := by
    refine congrArg (k0_pay1 _ _) (funext fun d => ?_)
    match d with
    | ⟨0, _⟩ => rfl
    | ⟨1, _⟩ => rfl
  refine el.trans (Eq.trans ?_ er.symm)
  rw [pay_apply, ref_apply]
  refine max_sum_congr fun k => ?_
  rw [half_row, wstg_eq, hX, hW]
  have e0 : (if decide ((i 0).val % 1024 < 512) = true then 0 else 512) + (i 0).val % 512 = (i 0).val % 1024 := by
    simp only [decide_eq_true_eq]
    split <;> omega
  refine congrArg₂ (· * ·) (congrArg X (funext fun d => ?_)) (congrArg W (funext fun d => ?_))
  · match d with
    | ⟨0, _⟩ =>
      refine Fin.ext ((congrArg ((i 0).val / 1024 * 1024 + ·) e0).trans ?_)
      exact Nat.div_add_mod' _ _
    | ⟨1, _⟩ => rfl
  · match d with
    | ⟨0, _⟩ => rfl
    | ⟨1, _⟩ => rfl

/-! ## The run, at the two arguments and the result -/

theorem arg1_fin (c : Dev nD) : finalA m c (0 : Fin 2) = m ((c : Thread nD τ).loc main_arg1) :=
  (dats (F := F) m 0 c).arrAt_in (0 : Fin 2) rfl _

theorem out_fin (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1_0 (funext fun a => by fin_cases a <;> decide) (fun a => by fin_cases a <;> decide) _).symm.trans h

/-- Every weakly fair execution ends with the arguments as they were, the result computed, and the counters at zero. -/
theorem run (ρ : Dev nD → PrngReg) : θ_run defs (onTc (τ := τ) (main (F := F))) ⟨m, fun _ => 0, ρ⟩ fun r =>
    (∀ c : Dev nD, r.2.mem ((c.tc : Thread nD τ).loc main_v1_0) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono
    (fun _ h => ⟨fun c => ⟨((h.1 c).1 (1 : Fin 2)).trans (out_fin m c), (h.1 c).2, ((h.1 c).1 (0 : Fin 2)).trans (arg1_fin m c)⟩, h.2⟩)
    (run_main m ρ)

end Cert.Ring

end
-- ==== Proof.AsPrinted.lean ====
/-
# The kernel as printed is the same program

The two printed programs have one text, so the run proved of the one, at any float values, is the other's at the machine's.
-/
module

public import proofs.«01_k».proof.Proof.Values
public import proofs.«01_k».proof.Proof.Gen.Kernel

@[expose] public section

noncomputable section

namespace Cert.Ring

open Idealize.ShloMosaic Idealize.SL.Sem

variable {F : FTy → Type} [FloatOps F]

theorem body_table : @Cert.Kernel.defs₀ F _ _ = @Cert.KernelIdeal.defs₀ F _ _ := by
  unfold Cert.Kernel.defs₀ Cert.KernelIdeal.defs₀
  congr 1
  funext ℓ x
  match ℓ, x with
  | 0, (t, s) => rfl

theorem table : @Cert.Kernel.defs F _ _ = @Cert.KernelIdeal.defs F _ _ :=
  congrArg (Pipeline.defs (Cert.KernelIdeal.pcfgs (F := F))) body_table

theorem main_same : Cert.Kernel.main (F := F) = Cert.KernelIdeal.main (F := F) := rfl

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.AsPrinted
public import Idealize.ShloMosaic.Adequacy
public import Idealize.ShloMosaic.Init

@[expose] public section

noncomputable section

namespace Cert.Proof

open Idealize.ShloMosaic Idealize.SL.Sem Cert.Kernel

/-- The printed kernel runs, leaves its arguments and ends quiescent. -/
theorem frame_p : Cert.quiescent_Kernel := by
  intro m ρ _
  rw [Cert.Ring.table, Cert.Ring.main_same]
  exact (θ_run _ _ _).mono (fun _ h => ⟨fun c => (h.1 c).2, h.2⟩) (Cert.Ring.run (F := Bits) m ρ)

/-- So does the same program read at the ideal values. -/
theorem frame_pi : Cert.quiescent_KernelIdeal := by
  intro m ρ _
  exact (θ_run _ _ _).mono (fun _ h => ⟨fun c => (h.1 c).2, h.2⟩) (Cert.Ring.run (F := Ideal) m ρ)

/-- And the reference. -/
theorem frame_ri : Cert.quiescent_ReferenceIdeal := by
  intro m ρ _
  exact (θ_run Cert.ReferenceIdeal.defs _ _).mono
    (fun r h => ⟨fun c => (h c).2, Idealize.ShloMosaic.sem_eq_zero_of_no_sems (by decide) r.2⟩) (Cert.Ring.Ref.run_main (F := Ideal) m ρ)

/-- Each device's result is its block of columns of the reference's. -/
theorem value : Cert.algebraic_KernelIdeal_ReferenceIdeal := by
  intro m ρ m' ρ' _ hagree
  refine ⟨Cert.Ring.Ref.refOut (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun _ h c => ⟨(h.1 c).1.trans ?_, (h.1 c).2⟩) (Cert.Ring.run (F := Ideal) m ρ)
    exact Cert.Ring.outAt_block m _ _ (fun c => (hagree c).1) (fun c => (hagree c).2) c
  · exact (θ_run Cert.ReferenceIdeal.defs _ _).mono (fun _ h => h 0) (Cert.Ring.Ref.run_main (F := Ideal) m' ρ')

theorem claim : Cert.Claim := ⟨Cert.Kernel.Gen.facts, Cert.KernelIdeal.Gen.facts, Cert.ReferenceIdeal.Gen.facts,
  frame_p, frame_pi, frame_ri, trivial, value⟩

end Cert.Proof

end
